-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_in_range [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_groups_in_range [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_groups_in_range [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel)
    ∧ quiescent_KernelIdeal (hKernelIdeal := hKernelIdeal)
    ∧ quiescent_KernelIdeal_pre_groups_in_range (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal_pre_groups_in_range (hKernelIdeal := hKernelIdeal) (hReferenceIdeal := hReferenceIdeal) (hPre_groups_in_range := hPre_groups_in_range)
-- ==== Pre_groups_in_range.lean ====
abbrev S4x1024x5120 : Shape := ⟨3, ![4, 1024, 5120]⟩
abbrev S640x5120 : Shape := ⟨2, ![640, 5120]⟩
abbrev S5x40 : Shape := ⟨2, ![5, 40]⟩
abbrev S4096x40x128 : Shape := ⟨3, ![4096, 40, 128]⟩
abbrev S_ : Shape := ⟨0, ![]⟩
abbrev S4096x40 : Shape := ⟨2, ![4096, 40]⟩

class Facts : Prop where
  bitsLt_bf16_f32 : FTy.bits .bf16 < FTy.bits .f32
  shapeCasts_S4x1024x5120_S4096x40x128 : S4x1024x5120.ShapeCasts S4096x40x128
  reducesTo_S4096x40x128_S4096x40_d2 : S4096x40x128.ReducesTo [2] S4096x40
  h_S_ : 0 < S_.numel
  bcast_S_S4096x40 : S_.BroadcastsInDim S4096x40 (![] : Fin 0 → Fin S4096x40.rank)
  reducesTo_S4096x40_S_d0_1 : S4096x40.ReducesTo [0, 1] S_

variable [Facts]

def fn {F : FTy → Type} [FloatOps F] (main_arg0 : FVec F S4x1024x5120 .bf16) (main_arg1 : FVec F S640x5120 .fp8e4m3) (main_arg2 : FVec F S5x40 .f32) : IVec S_ 1 :=
  let main_v0 : FVec F S4x1024x5120 .f32 := (extf .f32 · bitsLt_bf16_f32) main_arg0
  let main_v1 : FVec F S4096x40x128 .f32 := shapeCast S4096x40x128 main_v0 shapeCasts_S4x1024x5120_S4096x40x128
  let main_v2 : FVec F S4096x40x128 .f32 := Host.absf main_v1
  let main_cst : FVec F S_ .f32 := constant S_ .f32 0xFF800000#32
  let main_v3 : FVec F S4096x40 .f32 := (fun x v => Host.reduce FloatOps.maximumf x v reducesTo_S4096x40x128_S4096x40_d2 h_S_) main_v2 main_cst
  let main_cst_0 : FVec F S_ .f32 := constant S_ .f32 0x00000000#32
  let main_v4 : FVec F S4096x40 .f32 := broadcastInDim S4096x40 ![] bcast_S_S4096x40 main_cst_0
  let main_v5 : IVec S4096x40 1 := cmpf .oeq main_v3 main_v4
  let main_cst_1 : FVec F S_ .f32 := constant S_ .f32 0x04E00000#32
  let main_v6 : FVec F S4096x40 .f32 := broadcastInDim S4096x40 ![] bcast_S_S4096x40 main_cst_1
  let main_v7 : IVec S4096x40 1 := cmpf .oge main_v3 main_v6
  let main_cst_2 : FVec F S_ .f32 := constant S_ .f32 0x7F7F0000#32
  let main_v8 : FVec F S4096x40 .f32 := broadcastInDim S4096x40 ![] bcast_S_S4096x40 main_cst_2
  let main_v9 : IVec S4096x40 1 := cmpf .ole main_v3 main_v8
  let main_v10 : IVec S4096x40 1 := andi main_v7 main_v9
  let main_v11 : IVec S4096x40 1 := ori main_v5 main_v10
  let main_c : IVec S_ 1 := constantI S_ 1 1#1
  let main_v12 : IVec S_ 1 := (fun x v => Host.reduce IntOp.andi x v reducesTo_S4096x40_S_d0_1 h_S_) main_v11 main_c
  main_v12
-- ==== Kernel.lean ====
abbrev S4x1024x5120 : Shape := ⟨3, ![4, 1024, 5120]⟩
abbrev S640x5120 : Shape := ⟨2, ![640, 5120]⟩
abbrev S5x40 : Shape := ⟨2, ![5, 40]⟩
abbrev S4096x5120 : Shape := ⟨2, ![4096, 5120]⟩
abbrev S4096x640 : Shape := ⟨2, ![4096, 640]⟩
abbrev S4096x40 : Shape := ⟨2, ![4096, 40]⟩
abbrev S512x5120 : Shape := ⟨2, ![512, 5120]⟩
abbrev S512x640 : Shape := ⟨2, ![512, 640]⟩
abbrev S512x40 : Shape := ⟨2, ![512, 40]⟩
abbrev S128x128 : Shape := ⟨2, ![128, 128]⟩
abbrev S1x1 : Shape := ⟨2, ![1, 1]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S640x256 : Shape := ⟨2, ![640, 256]⟩

abbrev nBuf : Space → Nat
  | .hbm => 7
  | .vmem => 10
  | .smem => 1
  | _ => 0

abbrev bufTy : (tb : Table) → Fin (tcTables nBuf tb) → BufTy
  | .hbm, ⟨0, _⟩ => ⟨S4x1024x5120, .bf16⟩
  | .hbm, ⟨1, _⟩ => ⟨S640x5120, .fp8e4m3⟩
  | .hbm, ⟨2, _⟩ => ⟨S5x40, .f32⟩
  | .hbm, ⟨3, _⟩ => ⟨S4096x5120, .bf16⟩
  | .hbm, ⟨4, _⟩ => ⟨S4096x640, .bf16⟩
  | .hbm, ⟨5, _⟩ => ⟨S4096x5120, .fp8e4m3⟩
  | .hbm, ⟨6, _⟩ => ⟨S4096x40, .f32⟩
  | .local _ .vmem, ⟨0, _⟩ => ⟨S512x5120, .bf16⟩
  | .local _ .vmem, ⟨1, _⟩ => ⟨S512x5120, .bf16⟩
  | .local _ .vmem, ⟨2, _⟩ => ⟨S640x5120, .fp8e4m3⟩
  | .local _ .vmem, ⟨3, _⟩ => ⟨S512x640, .bf16⟩
  | .local _ .vmem, ⟨4, _⟩ => ⟨S512x640, .bf16⟩
  | .local _ .vmem, ⟨5, _⟩ => ⟨S512x5120, .fp8e4m3⟩
  | .local _ .vmem, ⟨6, _⟩ => ⟨S512x5120, .fp8e4m3⟩
  | .local _ .vmem, ⟨7, _⟩ => ⟨S512x40, .f32⟩
  | .local _ .vmem, ⟨8, _⟩ => ⟨S512x40, .f32⟩
  | .local _ .vmem, ⟨9, _⟩ => ⟨S640x5120, .bf16⟩
  | .local _ .smem, ⟨0, _⟩ => ⟨S5x40, .f32⟩
  | _, _ => ⟨S4x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S5x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5120 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x1024x5120 : Shape := ⟨3, ![4, 1024, 5120]⟩
abbrev S640x5120 : Shape := ⟨2, ![640, 5120]⟩
abbrev S5x40 : Shape := ⟨2, ![5, 40]⟩
abbrev S4096x5120 : Shape := ⟨2, ![4096, 5120]⟩
abbrev S4096x640 : Shape := ⟨2, ![4096, 640]⟩
abbrev S4096x40 : Shape := ⟨2, ![4096, 40]⟩
abbrev S4096x40x128 : Shape := ⟨3, ![4096, 40, 128]⟩
abbrev S1x1x254 : Shape := ⟨3, ![1, 1, 254]⟩
abbrev S4096x40x1 : Shape := ⟨3, ![4096, 40, 1]⟩
abbrev S4096x40x254 : Shape := ⟨3, ![4096, 40, 254]⟩
abbrev S5x128x40x128 : Shape := ⟨4, ![5, 128, 40, 128]⟩
abbrev S5x1x40x1 : Shape := ⟨4, ![5, 1, 40, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x1024x5120, .bf16⟩
  | .hbm, ⟨1, _⟩ => ⟨S640x5120, .fp8e4m3⟩
  | .hbm, ⟨2, _⟩ => ⟨S5x40, .f32⟩
  | .hbm, ⟨3, _⟩ => ⟨S4096x5120, .bf16⟩
  | .hbm, ⟨4, _⟩ => ⟨S4096x640, .bf16⟩
  | .hbm, ⟨5, _⟩ => ⟨S4096x5120, .fp8e4m3⟩
  | .hbm, ⟨6, _⟩ => ⟨S4096x40, .f32⟩
  | .local _ .vmem, ⟨0, _⟩ => ⟨S4096x5120, .bf16⟩
  | .local _ .vmem, ⟨1, _⟩ => ⟨S640x5120, .fp8e4m3⟩
  | .local _ .vmem, ⟨2, _⟩ => ⟨S5x40, .f32⟩
  | .local _ .vmem, ⟨3, _⟩ => ⟨S4096x640, .bf16⟩
  | .local _ .vmem, ⟨4, _⟩ => ⟨S4096x5120, .fp8e4m3⟩
  | .local _ .vmem, ⟨5, _⟩ => ⟨S4096x40, .f32⟩
  | _, _ => ⟨S4x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Model.lean ====
/- The kernel's body as plain functions of what it loads: the quantiser on one block of 128 columns (the same for each
   of the 40 blocks), the weights' dequantisation on one block of 128 × 128, the sum over the 20 chunks of 256 columns
   and the assembly of the scales. The printed body repeats these 40, 200, 20 and 40 times. -/
module

public import proofs.«01_k».proof.Proof.Gen.KernelIdeal.Skeleton

@[expose] public section

set_option maxRecDepth 16384

noncomputable section

namespace Cert.KernelIdeal.Model

open Cert.KernelIdeal Cert.KernelIdeal.Gen Idealize.ShloMosaic Idealize.ShloMosaic.TcCoe

variable {F : FTy → Type} [FloatOps F]

/-- One digit of the search for the greatest pattern whose reading is at most `a`. -/
def bitStep (a : FVec F S512x128 .bf16) (b : IVec S512x128 16) (c : BitVec 16) : IVec S512x128 16 :=
  select (cmpf .ole (bitcastToFloat .bf16 (ori b (broadcast S512x128 c))) a) (ori b (broadcast S512x128 c)) b

/-- The whole search. -/
def bitsOf (a : FVec F S512x128 .bf16) : IVec S512x128 16 :=
  bitStep a (bitStep a (bitStep a (bitStep a (bitStep a (bitStep a (bitStep a (bitStep a (bitStep a (bitStep a (bitStep a
    (bitStep a (bitStep a (bitStep a (bitStep a (broadcast S512x128 0#16)
    16384#16) 8192#16) 4096#16) 2048#16) 1024#16) 512#16) 256#16) 128#16) 64#16) 32#16) 16#16) 8#16) 4#16) 2#16) 1#16

/-- The pattern found, rounded to its exponent field. -/
def fieldOf (a : FVec F S512x128 .bf16) : IVec S512x128 16 :=
  andi (addi (bitsOf a) (broadcast S512x128 32#16)) (broadcast S512x128 32640#16)

/-- The exponent field the scale and its inverse are made of. -/
def expOf (a : FVec F S512x128 .bf16) : IVec S512x128 16 :=
  select (cmpi .slt (fieldOf a) (broadcast S512x128 1280#16)) (broadcast S512x128 17280#16) (fieldOf a)

/-- A block's greatest magnitude in each row, repeated along the row. -/
def maxOf (x : FVec F S512x128 .bf16) : FVec F S512x128 .bf16 :=
  broadcastTo S512x128 (shapeCast S512x1 (shapeCast S512x1
    (multiReduction .maximumf [1] S512 (absf x) 0xFF80#16 reduces_S512x128_S512 (.inr rfl) rfl) shapeCasts_S512_S512x1)
    shapeCasts_S512x1_S512x1) broadcasts_S512x1_S512x128

/-- A block as the body reads it. -/
def blockOf (x : Vec F S512x128 .bf16) : FVec F S512x128 .bf16 := shapeCast S512x128 x shapeCasts_S512x128_S512x128

/-- A block's scale. -/
def scaleOf (x : Vec F S512x128 .bf16) : FVec F S512x128 .bf16 :=
  bitcastToFloat .bf16 (subi (expOf (maxOf (blockOf x))) (broadcast S512x128 1024#16))

/-- A block's inverse scale. -/
def invOf (x : Vec F S512x128 .bf16) : FVec F S512x128 .bf16 :=
  bitcastToFloat .bf16 (subi (broadcast S512x128 33536#16) (expOf (maxOf (blockOf x))))

/-- A block's codes. -/
def codeOf (x : Vec F S512x128 .bf16) : FVec F S512x128 .fp8e4m3 :=
  truncf .fp8e4m3 (minimumf (broadcast S512x128 (Scalar.truncf .bf16 bitsLt_bf16_f32 (Scalar.ofBits .f32 0x43E00000#32 : F .f32)))
    (maximumf (broadcast S512x128 (Scalar.truncf .bf16 bitsLt_bf16_f32 (Scalar.ofBits .f32 0xC3E00000#32 : F .f32)))
      (mulf (blockOf x) (invOf x)))) bitsLt_fp8e4m3_bf16

/-- A block's codes times its scale. -/
def deqOf (x : Vec F S512x128 .bf16) : FVec F S512x128 .bf16 := mulf (extf .bf16 (codeOf x) bitsLt_fp8e4m3_bf16) (scaleOf x)

/-- One chunk's product: two blocks against 256 columns of the dequantised weights. -/
def chunkOf (x x' : Vec F S512x128 .bf16) (w : Vec F S640x256 .bf16) : FVec F S512x640 .f32 :=
  matmul dot_S512x256_S640x256_S512x640_1_1_0_0_n_n none
    (concatenate S512x256 1 [⟨S512x128, deqOf x⟩, ⟨S512x128, deqOf x'⟩] concatenates_S512x128_S512x128_S512x256_d1)
    w (constant S512x640 .f32 0x00000000#32)

/-- The sum of the chunks up to the `k`-th. -/
def accOf (x : Fin 40 → Vec F S512x128 .bf16) (w : Fin 20 → Vec F S640x256 .bf16) : (k : ℕ) → k < 20 → FVec F S512x640 .f32
  | 0, _ => chunkOf (x 0) (x 1) (w 0)
  | k + 1, h => addf (accOf x w k (by omega)) (chunkOf (x ⟨2 * (k + 1), by omega⟩) (x ⟨2 * (k + 1) + 1, by omega⟩) (w ⟨k + 1, h⟩))

/-- The output block. -/
def yOf (x : Fin 40 → Vec F S512x128 .bf16) (w : Fin 20 → Vec F S640x256 .bf16) : FVec F S512x640 .bf16 :=
  truncf .bf16 (accOf x w 19 (by decide)) bitsLt_bf16_f32

/-- The scales of the first `g` blocks, each in its lane. -/
def lanesOf (x : Fin 40 → Vec F S512x128 .bf16) : (g : ℕ) → g ≤ 40 → FVec F S512x128 .bf16
  | 0, _ => broadcast S512x128 (Scalar.ofBits .bf16 0x0000#16)
  | g + 1, h => select (cmpi .eq (iota .tc S512x128 16 [1] iota_S512x128_d1_w16) (broadcast S512x128 (BitVec.ofNat 16 g)))
      (scaleOf (x ⟨g, h⟩)) (lanesOf x g (by omega))

/-- The block of the scales. -/
def scalesOf (x : Fin 40 → Vec F S512x128 .bf16) : FVec F S512x40 .f32 :=
  extractStridedSlice S512x40 ![0, 0] (extf .f32 (lanesOf x 40 le_rfl) bitsLt_bf16_f32) slices_S512x128_o0_0_S512x40

/-- One 128 × 128 block of the weights, dequantised. -/
def wOf (w : Vec F S128x128 .fp8e4m3) (s : Elt F .f32) : FVec F S128x128 .bf16 :=
  mulf (extf .bf16 w bitsLt_fp8e4m3_bf16) (broadcast S128x128 (Scalar.truncf .bf16 bitsLt_bf16_f32 s))

end Cert.KernelIdeal.Model

end
-- ==== Proof.Pieces.lean ====
/- What one grid point of the kernel stores, block by block, is a block of one function of the loaded windows: the codes,
   the dequantised weights (at the first point, into the scratch), the scales in their lanes and the product. -/
module
public import proofs.«01_k».proof.Proof.Gen.KernelIdeal.Frame
public import proofs.«01_k».proof.Proof.Model
public import Idealize.ShloMosaic.Lib.Pipeline.Value
public import Idealize.ShloMosaic.Lib.Pipeline.ReadBack
public import Idealize.ShloMosaic.Lib.Pointwise
@[expose] public section
set_option maxRecDepth 16384
noncomputable section
namespace Cert.KernelIdeal.Val
open Cert.KernelIdeal Cert.KernelIdeal.Gen Cert.KernelIdeal.Model Idealize.ShloMosaic Idealize.ShloMosaic.TcCoe Idealize.SL.Sem
variable {F : FTy → Type} [FloatOps F]

/-- The block of columns lies in the input block. -/
theorem inb_x (g : ℕ) (h : g < 40) : ∀ a, (![0, 128 * g] : Fin 2 → ℕ) a + S512x128.size a ≤ S512x5120.size a := by
  intro a; fin_cases a
  · show 0 + 512 ≤ 512; omega
  · show 128 * g + 128 ≤ 5120; omega

/-- The block of weights lies in the weights. -/
theorem inb_w (o k : ℕ) (ho : o < 5) (hk : k < 40) : ∀ a, (![128 * o, 128 * k] : Fin 2 → ℕ) a + S128x128.size a ≤ S640x5120.size a := by
  intro a; fin_cases a
  · show 128 * o + 128 ≤ 640; omega
  · show 128 * k + 128 ≤ 5120; omega

/-- The word lies in the scales. -/
theorem inb_s (o k : ℕ) (ho : o < 5) (hk : k < 40) : ∀ a, (![o, k] : Fin 2 → ℕ) a + S1x1.size a ≤ S5x40.size a := by
  intro a; fin_cases a
  · show o + 1 ≤ 5; omega
  · show k + 1 ≤ 40; omega

/-- The chunk lies in the dequantised weights. -/
theorem inb_d (k : ℕ) (hk : k < 20) : ∀ a, (![0, 256 * k] : Fin 2 → ℕ) a + S640x256.size a ≤ S640x5120.size a := by
  intro a; fin_cases a
  · show 0 + 640 ≤ 640; omega
  · show 256 * k + 256 ≤ 5120; omega

/-- The columns of block `g`, as a rectangle of the input block. -/
def xRect (g : ℕ) (h : g < 40) : Rect S512x5120 := Rect.unit (s := S512x5120) ![0, 128 * g] S512x128.size (inb_x g h)
/-- The block `(o, k)` of the weights, as a rectangle. -/
def wRect (o k : ℕ) (ho : o < 5) (hk : k < 40) : Rect S640x5120 := Rect.unit (s := S640x5120) ![128 * o, 128 * k] S128x128.size (inb_w o k ho hk)
/-- The word `(o, k)` of the weights' scales, as a rectangle. -/
def sRect (o k : ℕ) (ho : o < 5) (hk : k < 40) : Rect S5x40 := Rect.unit (s := S5x40) ![o, k] S1x1.size (inb_s o k ho hk)
/-- The columns of chunk `k` of the dequantised weights. -/
def dRect (k : ℕ) (h : k < 20) : Rect S640x5120 := Rect.unit (s := S640x5120) ![0, 256 * k] S640x256.size (inb_d k h)

/-- The load of the columns of block `g` from the input block. -/
def xload (arg2 : Memref sig .tc .vmem S512x5120 .bf16) (harg2 : arg2.IsWhole) (x1 : Vec F S512x5120 .bf16) (g : Fin 40) : Vec F S512x128 .bf16 :=
  View.readAt (Elt F) arg2.view (xRect g.val g.isLt).toLoadRect (harg2.unread x1)

/-- The codes' stores, one for each group. -/
def codePieces (arg2 : Memref sig .tc .vmem S512x5120 .bf16) (harg2 : arg2.IsWhole) (x1 : Vec F S512x5120 .bf16) :
    (n : ℕ) → n ≤ 40 → List (View.Piece (Elt F) S512x5120 .fp8e4m3)
  | 0, _ => []
  | n + 1, h => ⟨xRect n h, codeOf (xload arg2 harg2 x1 ⟨n, h⟩)⟩ :: codePieces arg2 harg2 x1 n (by omega)

/-- The dequantised weights' stores, one for each block. -/
def wPieces (arg1 : Memref sig .tc .smem S5x40 .f32) (harg1 : arg1.IsWhole) (arg3 : Memref sig .tc .vmem S640x5120 .fp8e4m3) (harg3 : arg3.IsWhole) (x0 : Vec F S5x40 .f32) (x2 : Vec F S640x5120 .fp8e4m3) :
    (n : ℕ) → n ≤ 200 → List (View.Piece (Elt F) S640x5120 .bf16)
  | 0, _ => []
  | n + 1, h => ⟨wRect (n / 40) (n % 40) (by omega) (Nat.mod_lt _ (by decide)), shapeCast S128x128 (wOf (View.readAt (Elt F) arg3.view (wRect (n / 40) (n % 40) (by omega) (Nat.mod_lt _ (by decide))).toLoadRect (harg3.unread x2))
      (View.readAt (Elt F) arg1.view (sRect (n / 40) (n % 40) (by omega) (Nat.mod_lt _ (by decide))).toLoadRect (harg1.unread x0) (Shape.Idx.first (s := S1x1) (by decide)))) shapeCasts_S128x128_S128x128⟩ :: wPieces arg1 harg1 arg3 harg3 x0 x2 n (by omega)

/-- At a later point the scales laid in lanes are those of the loaded groups. -/
theorem lanes_B (c : Dev nD) (arg2 : Memref sig .tc .vmem S512x5120 .bf16) (harg2 : arg2.IsWhole) (x1 : Vec F S512x5120 .bf16) :
   kernelRun0_B.sl.r_309 c arg2 harg2 x1 = lanesOf (xload arg2 harg2 x1) 40 le_rfl := rfl
/-- At the first point the scales laid in lanes are those of the loaded groups. -/
theorem lanes_A (c : Dev nD) (arg2 : Memref sig .tc .vmem S512x5120 .bf16) (harg2 : arg2.IsWhole) (x1 : Vec F S512x5120 .bf16) :
   kernelRun0_A.sl.r_562 c arg2 harg2 x1 = lanesOf (xload arg2 harg2 x1) 40 le_rfl := rfl

/-- A later point's stores of codes are the codes' pieces. -/
theorem codes_B (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole) (hc0 : ¬cond0_0 i)
    (x0 : Vec F S5x40 .f32) (x1 : Vec F S512x5120 .bf16) (x2 : Vec F S640x5120 .fp8e4m3) (xs0 : Vec F S640x5120 .bf16) :
   (kernelRun0_B c i arg1 harg1 arg2 harg2 arg3 harg3 arg4 harg4 arg5 harg5 arg6 harg6 arg7 harg7 hc0 x0 x1 x2 xs0).2.1 = codePieces arg2 harg2 x1 40 le_rfl := rfl
/-- The first point's stores of codes are the codes' pieces. -/
theorem codes_A (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole) (hc0 : cond0_0 i)
    (x0 : Vec F S5x40 .f32) (x1 : Vec F S512x5120 .bf16) (x2 : Vec F S640x5120 .fp8e4m3)  :
   (kernelRun0_A c i arg1 harg1 arg2 harg2 arg3 harg3 arg4 harg4 arg5 harg5 arg6 harg6 arg7 harg7 hc0 x0 x1 x2).2.1 = codePieces arg2 harg2 x1 40 le_rfl := rfl
/-- The first point's stores to the scratch are the dequantised weights' pieces. -/
theorem weights_A (c : Dev nD) (arg1 : Memref sig .tc .smem S5x40 .f32) (harg1 : arg1.IsWhole) (arg3 : Memref sig .tc .vmem S640x5120 .fp8e4m3) (harg3 : arg3.IsWhole)
    (x0 : Vec F S5x40 .f32) (x2 : Vec F S640x5120 .fp8e4m3) :
    kernelRun0_A.sl.HS0_200 c arg1 harg1 arg3 harg3 x0 x2 = wPieces arg1 harg1 arg3 harg3 x0 x2 200 le_rfl := rfl

/-- The whole of the first output block lies in it. -/
theorem inb_y : ∀ a, (![0, 0] : Fin 2 → ℕ) a + S512x640.size a ≤ S512x640.size a := by
  intro a; fin_cases a
  · show 0 + 512 ≤ 512; omega
  · show 0 + 640 ≤ 640; omega

/-- The whole of the third output block lies in it. -/
theorem inb_o : ∀ a, (![0, 0] : Fin 2 → ℕ) a + S512x40.size a ≤ S512x40.size a := by
  intro a; fin_cases a
  · show 0 + 512 ≤ 512; omega
  · show 0 + 40 ≤ 40; omega

/-- The load of chunk `k` from the scratch as it was. -/
def dload (arg7 : Memref sig .tc .vmem S640x5120 .bf16) (harg7 : arg7.IsWhole) (xs0 : Vec F S640x5120 .bf16) (k : Fin 20) : Vec F S640x256 .bf16 :=
  View.readAt (Elt F) arg7.view (dRect k.val k.isLt).toLoadRect (harg7.unread xs0)

/-- The load of chunk `k` from the scratch after the stores `L`. -/
def dcov (arg7 : Memref sig .tc .vmem S640x5120 .bf16) (L : List (View.Piece (Elt F) S640x5120 .bf16)) (k : Fin 20) : Vec F S640x256 .bf16 :=
  arg7.view.readCov L (dRect k.val k.isLt).toLoadRect

/-- A later point's store of the product. -/
theorem y_B (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole) (hc0 : ¬cond0_0 i)
    (x0 : Vec F S5x40 .f32) (x1 : Vec F S512x5120 .bf16) (x2 : Vec F S640x5120 .fp8e4m3) (xs0 : Vec F S640x5120 .bf16) :
   (kernelRun0_B c i arg1 harg1 arg2 harg2 arg3 harg3 arg4 harg4 arg5 harg5 arg6 harg6 arg7 harg7 hc0 x0 x1 x2 xs0).1 =
     [⟨Rect.unit (s := S512x640) ![0, 0] S512x640.size inb_y, yOf (xload arg2 harg2 x1) (dload arg7 harg7 xs0)⟩] := rfl
/-- A later point's store of the scales. -/
theorem scales_B (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole) (hc0 : ¬cond0_0 i)
    (x0 : Vec F S5x40 .f32) (x1 : Vec F S512x5120 .bf16) (x2 : Vec F S640x5120 .fp8e4m3) (xs0 : Vec F S640x5120 .bf16) :
   (kernelRun0_B c i arg1 harg1 arg2 harg2 arg3 harg3 arg4 harg4 arg5 harg5 arg6 harg6 arg7 harg7 hc0 x0 x1 x2 xs0).2.2.1 =
     [⟨Rect.unit (s := S512x40) ![0, 0] S512x40.size inb_o, scalesOf (xload arg2 harg2 x1)⟩] := rfl
/-- The first point's store of the product. -/
theorem y_A (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole) (hc0 : cond0_0 i)
    (x0 : Vec F S5x40 .f32) (x1 : Vec F S512x5120 .bf16) (x2 : Vec F S640x5120 .fp8e4m3) :
   (kernelRun0_A c i arg1 harg1 arg2 harg2 arg3 harg3 arg4 harg4 arg5 harg5 arg6 harg6 arg7 harg7 hc0 x0 x1 x2).1 =
     [⟨Rect.unit (s := S512x640) ![0, 0] S512x640.size inb_y, yOf (xload arg2 harg2 x1) (dcov arg7 (kernelRun0_A.sl.HS0_200 c arg1 harg1 arg3 harg3 x0 x2))⟩] := rfl
/-- The first point's store of the scales. -/
theorem scales_A (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole) (hc0 : cond0_0 i)
    (x0 : Vec F S5x40 .f32) (x1 : Vec F S512x5120 .bf16) (x2 : Vec F S640x5120 .fp8e4m3) :
   (kernelRun0_A c i arg1 harg1 arg2 harg2 arg3 harg3 arg4 harg4 arg5 harg5 arg6 harg6 arg7 harg7 hc0 x0 x1 x2).2.2.1 =
     [⟨Rect.unit (s := S512x40) ![0, 0] S512x40.size inb_o, scalesOf (xload arg2 harg2 x1)⟩] := rfl
/-- What the first point leaves in the scratch, as pieces. -/
theorem sweights_A (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole) (hc0 : cond0_0 i)
    (x0 : Vec F S5x40 .f32) (x1 : Vec F S512x5120 .bf16) (x2 : Vec F S640x5120 .fp8e4m3) :
   (kernelRun0_A c i arg1 harg1 arg2 harg2 arg3 harg3 arg4 harg4 arg5 harg5 arg6 harg6 arg7 harg7 hc0 x0 x1 x2).2.2.2.1 =
     kernelRun0_A.sl.HS0_200 c arg1 harg1 arg3 harg3 x0 x2 := rfl

/-! ## What the pieces leave -/

/-- The columns of block `g`. -/
def cols (x1 : Vec F S512x5120 .bf16) (g : Fin 40) : Vec F S512x128 .bf16 := View.ld x1 (xRect g.val g.isLt)

/-- The columns of chunk `k` of the dequantised weights. -/
def dcols (d : Vec F S640x5120 .bf16) (k : Fin 20) : Vec F S640x256 .bf16 := View.ld d (dRect k.val k.isLt)

/-- The codes of a block of rows. -/
def codesG (x1 : Vec F S512x5120 .bf16) : Vec F S512x5120 .fp8e4m3 := fun i =>
  codeOf (cols x1 ⟨(i 1).val / 128, by have h : (i 1).val < 5120 := (i 1).isLt; omega⟩) (ix2 (i 0) ⟨(i 1).val % 128, Nat.mod_lt _ (by decide)⟩)

/-- The dequantised weights. -/
def weightsG (x0 : Vec F S5x40 .f32) (x2 : Vec F S640x5120 .fp8e4m3) : Vec F S640x5120 .bf16 := fun i =>
  mulf (extf .bf16 x2 bitsLt_fp8e4m3_bf16)
    (fun _ => Scalar.truncf .bf16 bitsLt_bf16_f32 (x0 (ix2 ⟨(i 0).val / 128, by have h : (i 0).val < 640 := (i 0).isLt; omega⟩ ⟨(i 1).val / 128, by have h : (i 1).val < 5120 := (i 1).isLt; omega⟩))) i

/-- The load reads the columns. -/
theorem xload_eq (arg2 : Memref sig .tc .vmem S512x5120 .bf16) (harg2 : arg2.IsWhole) (x1 : Vec F S512x5120 .bf16) :
    xload arg2 harg2 x1 = cols x1 := by
  funext g
  unfold xload cols
  rw [View.readAt_eq_ld, harg2.read_unread]

/-- The load reads the chunk. -/
theorem dload_eq (arg7 : Memref sig .tc .vmem S640x5120 .bf16) (harg7 : arg7.IsWhole) (d : Vec F S640x5120 .bf16) :
    dload arg7 harg7 d = dcols d := by
  funext g
  unfold dload dcols
  rw [View.readAt_eq_ld, harg7.read_unread]

/-- The codes' pieces are blocks of the codes. -/
theorem codePieces_of (arg2 : Memref sig .tc .vmem S512x5120 .bf16) (harg2 : arg2.IsWhole) (x1 : Vec F S512x5120 .bf16) :
    ∀ (n : ℕ) (h : n ≤ 40), View.PiecesOf (codesG x1) (codePieces arg2 harg2 x1 n h)
  | 0, _ => trivial
  | n + 1, h => by
    refine ⟨fun y => ?_, codePieces_of arg2 harg2 x1 n (by omega)⟩
    show codeOf (xload arg2 harg2 x1 ⟨n, h⟩) y = codesG x1 ((xRect n h).emb y)
    have e0 : (((xRect n h).emb y) 0).val = 0 + 1 * (y 0).val := rfl
    have e1 : (((xRect n h).emb y) 1).val = 128 * n + 1 * (y 1).val := rfl
    have hy : (y 1).val < 128 := (y 1).isLt
    rw [xload_eq]
    unfold codesG
    congr 1
    · congr 2
      show n = (((xRect n h).emb y) 1).val / 128
      rw [e1]; omega
    · rw [eq_ix2 y]
      congr 1
      · apply Fin.ext
        show (y 0).val = (((xRect n h).emb y) 0).val
        rw [e0]; omega
      · apply Fin.ext
        show (y 1).val = (((xRect n h).emb y) 1).val % 128
        rw [e1]; omega

/-- The weights' pieces are blocks of the dequantised weights. -/
theorem wPieces_of (arg1 : Memref sig .tc .smem S5x40 .f32) (harg1 : arg1.IsWhole) (arg3 : Memref sig .tc .vmem S640x5120 .fp8e4m3) (harg3 : arg3.IsWhole) (x0 : Vec F S5x40 .f32) (x2 : Vec F S640x5120 .fp8e4m3) :
    ∀ (n : ℕ) (h : n ≤ 200), View.PiecesOf (weightsG x0 x2) (wPieces arg1 harg1 arg3 harg3 x0 x2 n h)
  | 0, _ => trivial
  | n + 1, h => by
    refine ⟨fun y => ?_, wPieces_of arg1 harg1 arg3 harg3 x0 x2 n (by omega)⟩
    have ho : n / 40 < 5 := by omega
    have hk : n % 40 < 40 := Nat.mod_lt _ (by decide)
    show shapeCast S128x128 (wOf (View.readAt (Elt F) arg3.view (wRect (n / 40) (n % 40) ho hk).toLoadRect (harg3.unread x2))
      (View.readAt (Elt F) arg1.view (sRect (n / 40) (n % 40) ho hk).toLoadRect (harg1.unread x0) (Shape.Idx.first (s := S1x1) (by decide)))) shapeCasts_S128x128_S128x128 y
      = weightsG x0 x2 ((wRect (n / 40) (n % 40) ho hk).emb y)
    rw [View.readAt_eq_ld, View.readAt_eq_ld, harg1.read_unread, harg3.read_unread]
    have e0 : (((wRect (n / 40) (n % 40) ho hk).emb y) 0).val = 128 * (n / 40) + 1 * (y 0).val := rfl
    have e1 : (((wRect (n / 40) (n % 40) ho hk).emb y) 1).val = 128 * (n % 40) + 1 * (y 1).val := rfl
    have hy0 : (y 0).val < 128 := (y 0).isLt
    have hy1 : (y 1).val < 128 := (y 1).isLt
    have hs : shapeCast S128x128 (wOf (View.ld x2 (wRect (n / 40) (n % 40) ho hk)) (View.ld x0 (sRect (n / 40) (n % 40) ho hk) (Shape.Idx.first (s := S1x1) (by decide)))) shapeCasts_S128x128_S128x128 y
        = wOf (View.ld x2 (wRect (n / 40) (n % 40) ho hk)) (View.ld x0 (sRect (n / 40) (n % 40) ho hk) (Shape.Idx.first (s := S1x1) (by decide))) y := by
      generalize wOf (View.ld x2 (wRect (n / 40) (n % 40) ho hk)) (View.ld x0 (sRect (n / 40) (n % 40) ho hk) (Shape.Idx.first (s := S1x1) (by decide))) = W
      pointwise []
    refine hs.trans ?_
    unfold wOf weightsG
    refine congrArg (FloatOps.mulf _) (congrArg (fun q => Scalar.truncf .bf16 bitsLt_bf16_f32 (x0 q)) ?_)
    funext a
    apply Fin.ext
    match a with
    | ⟨0, _⟩ => show n / 40 + 1 * 0 = (((wRect (n / 40) (n % 40) ho hk).emb y) 0).val / 128; rw [e0]; omega
    | ⟨1, _⟩ => show n % 40 + 1 * 0 = (((wRect (n / 40) (n % 40) ho hk).emb y) 1).val / 128; rw [e1]; omega

/-- Pieces that are blocks of `G` and cover the shape leave `G`. -/
theorem canon_of {s : Shape} {e : EltTy} (G : Vec F s e) (L : List (View.Piece (Elt F) s e)) (h : View.PiecesOf G L)
    (hc : ∀ y, ∃ p ∈ L, y ∈ p.1.set) : View.canon L = G := by
  funext y
  have := View.canon_append_of_piecesOf G [] L h y (hc y)
  rwa [List.append_nil] at this

section outs

variable (c : Dev nD) (i : grid0.Coords) (arg1 : Memref sig .tc .smem S5x40 .f32) (harg1 : arg1.IsWhole) (arg2 : Memref sig .tc .vmem S512x5120 .bf16) (harg2 : arg2.IsWhole) (arg3 : Memref sig .tc .vmem S640x5120 .fp8e4m3) (harg3 : arg3.IsWhole) (arg4 : Memref sig .tc .vmem S512x640 .bf16) (harg4 : arg4.IsWhole) (arg5 : Memref sig .tc .vmem S512x5120 .fp8e4m3) (harg5 : arg5.IsWhole) (arg6 : Memref sig .tc .vmem S512x40 .f32) (harg6 : arg6.IsWhole) (arg7 : Memref sig .tc .vmem S640x5120 .bf16) (harg7 : arg7.IsWhole)
  (x0 : Vec F S5x40 .f32) (x1 : Vec F S512x5120 .bf16) (x2 : Vec F S640x5120 .fp8e4m3) (xs0 : Vec F S640x5120 .bf16)

/-- At the first point the scratch ends holding the dequantised weights. -/
theorem sout_A (hc0 : cond0_0 i) :
    sout0_A_0 c i arg1 harg1 arg2 harg2 arg3 harg3 arg4 harg4 arg5 harg5 arg6 harg6 arg7 harg7 hc0 x0 x1 x2 = weightsG x0 x2 := by
  unfold sout0_A_0
  rw [View.read_writes_junk_eq_canon]
  refine canon_of _ _ ?_ (scover0_A_0 c i arg1 harg1 arg2 harg2 arg3 harg3 arg4 harg4 arg5 harg5 arg6 harg6 arg7 harg7 hc0 x0 x1 x2)
  rw [sweights_A, weights_A]
  exact wPieces_of arg1 harg1 arg3 harg3 x0 x2 200 le_rfl

include arg2 harg2 arg4 harg4 arg5 harg5 arg6 harg6 harg7 x1 in
/-- So a load of a chunk of them, there, reads the chunk. -/
theorem dcov_eq (hc0 : cond0_0 i) : dcov arg7 (kernelRun0_A.sl.HS0_200 c arg1 harg1 arg3 harg3 x0 x2) = dcols (weightsG x0 x2) := by
  have h : View.canon (kernelRun0_A.sl.HS0_200 c arg1 harg1 arg3 harg3 x0 x2) = weightsG x0 x2 := by
    refine canon_of _ _ ?_ ?_
    · rw [weights_A]
      exact wPieces_of arg1 harg1 arg3 harg3 x0 x2 200 le_rfl
    · intro y
      have := scover0_A_0 c i arg1 harg1 arg2 harg2 arg3 harg3 arg4 harg4 arg5 harg5 arg6 harg6 arg7 harg7 hc0 x0 x1 x2 y
      rwa [sweights_A] at this
  funext k
  unfold dcov dcols
  rw [View.readCov_eq_canon', h]

/-- The codes after the first point. -/
theorem codes_out_A (hc0 : cond0_0 i) :
    out0_A_4 c i arg1 harg1 arg2 harg2 arg3 harg3 arg4 harg4 arg5 harg5 arg6 harg6 arg7 harg7 hc0 x0 x1 x2 = codesG x1 := by
  unfold out0_A_4
  rw [View.read_writes_junk_eq_canon]
  refine canon_of _ _ ?_ (cover0_A_4 c i arg1 harg1 arg2 harg2 arg3 harg3 arg4 harg4 arg5 harg5 arg6 harg6 arg7 harg7 hc0 x0 x1 x2)
  rw [codes_A]
  exact codePieces_of arg2 harg2 x1 40 le_rfl

/-- The codes after a later point. -/
theorem codes_out_B (hc0 : ¬cond0_0 i) :
    out0_B_4 c i arg1 harg1 arg2 harg2 arg3 harg3 arg4 harg4 arg5 harg5 arg6 harg6 arg7 harg7 hc0 x0 x1 x2 xs0 = codesG x1 := by
  unfold out0_B_4
  rw [View.read_writes_junk_eq_canon]
  refine canon_of _ _ ?_ (cover0_B_4 c i arg1 harg1 arg2 harg2 arg3 harg3 arg4 harg4 arg5 harg5 arg6 harg6 arg7 harg7 hc0 x0 x1 x2 xs0)
  rw [codes_B]
  exact codePieces_of arg2 harg2 x1 40 le_rfl

/-- The whole blocks start at 0. -/
theorem zero2 : ∀ a, (![0, 0] : Fin 2 → ℕ) a = 0 := by decide

/-- The scales after the first point. -/
theorem scales_out_A (hc0 : cond0_0 i) :
    out0_A_5 c i arg1 harg1 arg2 harg2 arg3 harg3 arg4 harg4 arg5 harg5 arg6 harg6 arg7 harg7 hc0 x0 x1 x2 = scalesOf (cols x1) := by
  unfold out0_A_5
  rw [View.read_writes_junk_eq_canon, scales_A, xload_eq]
  exact View.canon_cons_unit_lit _ _ [] zero2

/-- The scales after a later point. -/
theorem scales_out_B (hc0 : ¬cond0_0 i) :
    out0_B_5 c i arg1 harg1 arg2 harg2 arg3 harg3 arg4 harg4 arg5 harg5 arg6 harg6 arg7 harg7 hc0 x0 x1 x2 xs0 = scalesOf (cols x1) := by
  unfold out0_B_5
  rw [View.read_writes_junk_eq_canon, scales_B, xload_eq]
  exact View.canon_cons_unit_lit _ _ [] zero2

/-- The product after the first point. -/
theorem y_out_A (hc0 : cond0_0 i) :
    out0_A_3 c i arg1 harg1 arg2 harg2 arg3 harg3 arg4 harg4 arg5 harg5 arg6 harg6 arg7 harg7 hc0 x0 x1 x2 = yOf (cols x1) (dcols (weightsG x0 x2)) := by
  unfold out0_A_3
  rw [View.read_writes_junk_eq_canon, y_A, xload_eq,
    dcov_eq c i arg1 harg1 arg2 harg2 arg3 harg3 arg4 harg4 arg5 harg5 arg6 harg6 arg7 harg7 x0 x1 x2 hc0]
  exact View.canon_cons_unit_lit _ _ [] zero2

/-- The product after a later point. -/
theorem y_out_B (hc0 : ¬cond0_0 i) :
    out0_B_3 c i arg1 harg1 arg2 harg2 arg3 harg3 arg4 harg4 arg5 harg5 arg6 harg6 arg7 harg7 hc0 x0 x1 x2 xs0 = yOf (cols x1) (dcols xs0) := by
  unfold out0_B_3
  rw [View.read_writes_junk_eq_canon, y_B, xload_eq, dload_eq]
  exact View.canon_cons_unit_lit _ _ [] zero2

end outs

end Cert.KernelIdeal.Val

end
-- ==== Proof.Blocks.lean ====
/- What each grid point of the kernel leaves, in the arguments' contents: the scratch holds the dequantised weights after
   every point, and the three outputs' arrays are read off the block of rows their index lies in. -/
module

public import proofs.«01_k».proof.Proof.Gen.KernelIdeal.Value
public import proofs.«01_k».proof.Proof.Pieces
public import Idealize.ShloMosaic.Lib.Claim
public import Idealize.ShloMosaic.Lib.Pipeline.ValueKit.Point

@[expose] public section

set_option maxRecDepth 16384

noncomputable section

namespace Cert.KernelIdeal.Val

open Cert.KernelIdeal Cert.KernelIdeal.Gen Cert.KernelIdeal.Model Cert.KernelIdeal.Value Idealize.ShloMosaic Idealize.ShloMosaic.TcCoe Idealize.SL.Sem

variable {F : FTy → Type} [FloatOps F]
variable (m : (ℓ : Loc nD τ sig) → Buf (Elt F) ℓ)

/-- The input's rows, flattened. -/
def xf (c : Dev nD) : Vec F S4096x5120 .bf16 := shapeCast S4096x5120 (m ((c : Thread nD τ).loc main_arg0) : Vec F S4x1024x5120 .bf16) shapeCasts_S4x1024x5120_S4096x5120
/-- The weights. -/
def wf (c : Dev nD) : Vec F S640x5120 .fp8e4m3 := m ((c : Thread nD τ).loc main_arg1)
/-- The weights' scales. -/
def sf (c : Dev nD) : Vec F S5x40 .f32 := m ((c : Thread nD τ).loc main_arg2)

/-- The region reads the flattened input. -/
theorem V_v0 (c : Dev nD) : V m c main_v0 = xf m c := by
  unfold xf
  entry_read
  rfl

/-- The weights' scales' window stays at the whole array. -/
theorem index0 : ∀ t : Fin cfg0.N, win0_0.index t = ![0, 0] := (by decide +kernel : ∀ t : Fin grid0.N, _)
/-- The input's window moves down the rows with the point. -/
theorem index1 : ∀ t : Fin cfg0.N, win0_1.index t = ![t.val, 0] := (by decide +kernel : ∀ t : Fin grid0.N, _)
/-- The weights' window stays at the whole array. -/
theorem index2 : ∀ t : Fin cfg0.N, win0_2.index t = ![0, 0] := (by decide +kernel : ∀ t : Fin grid0.N, _)

/-- Every point's block of the weights' scales is all of them. -/
theorem iblk0_eq (c : Dev nD) (t : Fin cfg0.N) : iblk m c 0 t = sf m c := by
  funext y
  refine Eq.trans (b := V m c main_arg2 (((cfg0.win 0).blk t).view.emb y)) rfl ?_
  rw [V_main_arg2]
  unfold sf
  congr 1
  have h := index0 t
  funext a
  apply Fin.ext
  match a with
  | ⟨0, _⟩ =>
    show win0_0.index t (0 : Fin 2) * 5 + 1 * (y 0).val = (y 0).val
    rw [h]; show 0 * 5 + 1 * (y 0).val = (y 0).val; omega
  | ⟨1, _⟩ =>
    show win0_0.index t (1 : Fin 2) * 40 + 1 * (y 1).val = (y 1).val
    rw [h]; show 0 * 40 + 1 * (y 1).val = (y 1).val; omega

/-- Every point's block of the weights is all of them. -/
theorem iblk2_eq (c : Dev nD) (t : Fin cfg0.N) : iblk m c 2 t = wf m c := by
  funext y
  refine Eq.trans (b := V m c main_arg1 (((cfg0.win 2).blk t).view.emb y)) rfl ?_
  rw [V_main_arg1]
  unfold wf
  congr 1
  have h := index2 t
  funext a
  apply Fin.ext
  match a with
  | ⟨0, _⟩ =>
    show win0_2.index t (0 : Fin 2) * 640 + 1 * (y 0).val = (y 0).val
    rw [h]; show 0 * 640 + 1 * (y 0).val = (y 0).val; omega
  | ⟨1, _⟩ =>
    show win0_2.index t (1 : Fin 2) * 5120 + 1 * (y 1).val = (y 1).val
    rw [h]; show 0 * 5120 + 1 * (y 1).val = (y 1).val; omega

/-- The rows of block `t`. -/
def rowsOf (x : Vec F S4096x5120 .bf16) (t : ℕ) (ht : t < 8) : Vec F S512x5120 .bf16 := fun i =>
  x (ix2 ⟨t * 512 + (i 0).val, by have h : (i 0).val < 512 := (i 0).isLt; omega⟩ (i 1))

/-- Point `t`'s block of the input is its block of rows. -/
theorem iblk1_eq (c : Dev nD) (t : Fin cfg0.N) : iblk m c 1 t = rowsOf (xf m c) t.val (lt_of_lt_of_eq t.isLt N_0) := by
  funext y
  refine Eq.trans (b := V m c main_v0 (((cfg0.win 1).blk t).view.emb y)) rfl ?_
  rw [V_v0]
  unfold rowsOf
  congr 1
  have h := index1 t
  funext a
  apply Fin.ext
  match a with
  | ⟨0, _⟩ =>
    show win0_1.index t (0 : Fin 2) * 512 + 1 * (y 0).val = t.val * 512 + (y 0).val
    rw [h]; show t.val * 512 + 1 * (y 0).val = _; omega
  | ⟨1, _⟩ =>
    show win0_1.index t (1 : Fin 2) * 5120 + 1 * (y 1).val = (y 1).val
    rw [h]; show 0 * 5120 + 1 * (y 1).val = _; omega

/-- What every point leaves: the outputs' blocks of its rows, and the dequantised weights in the scratch. -/
theorem outs_eq (c : Dev nD) : ∀ (n : ℕ) (hn : n < cfg0.N), outsAt0 m c n hn =
    (yOf (cols (rowsOf (xf m c) n (lt_of_lt_of_eq hn N_0))) (dcols (weightsG (sf m c) (wf m c))),
      codesG (rowsOf (xf m c) n (lt_of_lt_of_eq hn N_0)), scalesOf (cols (rowsOf (xf m c) n (lt_of_lt_of_eq hn N_0))),
      weightsG (sf m c) (wf m c))
  | 0, hn => by
    rw [outsAt0_A m c ⟨0, hn⟩ (Nat.zero_mod _), y_out_A, codes_out_A, scales_out_A, sout_A, iblk0_eq, iblk1_eq, iblk2_eq]
  | n + 1, hn => by
    have h0 : ¬ (n + 1) % 8 = 0 := by have := lt_of_lt_of_eq hn (show cfg0.N = 8 from N_0); omega
    have ih := congrArg (fun p => p.2.2.2) (outs_eq c n (Nat.lt_of_succ_lt hn))
    have hs : (outsAt0 m c ((⟨n + 1, hn⟩ : Fin cfg0.N).val - 1) (Nat.lt_of_le_of_lt (Nat.sub_le _ _) (⟨n + 1, hn⟩ : Fin cfg0.N).isLt)).2.2.2 = weightsG (sf m c) (wf m c) := ih
    rw [outsAt0_B m c ⟨n + 1, hn⟩ h0, y_out_B, codes_out_B, scales_out_B, iblk1_eq]
    unfold sout0_B_0
    rw [hs]

/-- The first result's array. -/
theorem G3_apply (c : Dev nD) (i : Fin 4096) (o : Fin 640) : G3 m c (ix2 i o) =
    yOf (cols (rowsOf (xf m c) (i.val / 512) (by omega))) (dcols (weightsG (sf m c) (wf m c))) (ix2 ⟨i.val % 512, Nat.mod_lt _ (by decide)⟩ o) := by
  have hp : pt3Of (ix2 i o) = i.val / 512 := by
    show 1 * (i.val / 512 - 0) + 1 * (o.val / 640 - 0) = i.val / 512
    omega
  have hl : loc3Of (ix2 i o) = ix2 ⟨i.val % 512, Nat.mod_lt _ (by decide)⟩ o := by
    funext a; apply Fin.ext
    match a with
    | ⟨0, _⟩ => rfl
    | ⟨1, _⟩ => show o.val % 640 = o.val; omega
  have hN : i.val / 512 < cfg0.N := by rw [show cfg0.N = 8 from N_0]; omega
  unfold G3
  rw [dif_pos (by rw [hp]; exact hN), hl, fold0_congr m c _ _ (i.val / 512) (by omega) hp, ← outsAt0_sweep m c _ hN, outs_eq]

/-- The second result's array. -/
theorem G4_apply (c : Dev nD) (i : Fin 4096) (j : Fin 5120) : G4 m c (ix2 i j) =
    codesG (rowsOf (xf m c) (i.val / 512) (by omega)) (ix2 ⟨i.val % 512, Nat.mod_lt _ (by decide)⟩ j) := by
  have hp : pt4Of (ix2 i j) = i.val / 512 := by
    show 1 * (i.val / 512 - 0) + 1 * (j.val / 5120 - 0) = i.val / 512
    omega
  have hl : loc4Of (ix2 i j) = ix2 ⟨i.val % 512, Nat.mod_lt _ (by decide)⟩ j := by
    funext a; apply Fin.ext
    match a with
    | ⟨0, _⟩ => rfl
    | ⟨1, _⟩ => show j.val % 5120 = j.val; omega
  have hN : i.val / 512 < cfg0.N := by rw [show cfg0.N = 8 from N_0]; omega
  unfold G4
  rw [dif_pos (by rw [hp]; exact hN), hl, fold0_congr m c _ _ (i.val / 512) (by omega) hp, ← outsAt0_sweep m c _ hN, outs_eq]

/-- The third result's array. -/
theorem G5_apply (c : Dev nD) (i : Fin 4096) (g : Fin 40) : G5 m c (ix2 i g) =
    scalesOf (cols (rowsOf (xf m c) (i.val / 512) (by omega))) (ix2 ⟨i.val % 512, Nat.mod_lt _ (by decide)⟩ g) := by
  have hp : pt5Of (ix2 i g) = i.val / 512 := by
    show 1 * (i.val / 512 - 0) + 1 * (g.val / 40 - 0) = i.val / 512
    omega
  have hl : loc5Of (ix2 i g) = ix2 ⟨i.val % 512, Nat.mod_lt _ (by decide)⟩ g := by
    funext a; apply Fin.ext
    match a with
    | ⟨0, _⟩ => rfl
    | ⟨1, _⟩ => show g.val % 40 = g.val; omega
  have hN : i.val / 512 < cfg0.N := by rw [show cfg0.N = 8 from N_0]; omega
  unfold G5
  rw [dif_pos (by rw [hp]; exact hN), hl, fold0_congr m c _ _ (i.val / 512) (by omega) hp, ← outsAt0_sweep m c _ hN, outs_eq]

end Cert.KernelIdeal.Val

end
-- ==== Proof.Quant.lean ====
/- The quantiser's arithmetic on one group of 128 values, as functions of the group's greatest magnitude `a` alone:
   the kernel finds the scale by a search over the patterns of bf16 and integer arithmetic on the pattern found, the
   reference by counting the powers of two up to `a / 448`. Both give `2^e` for the `e` with
   `448 · 2^(e-1) ≤ a < 448 · 2^e`, and 1 for `a = 0`. -/
module

public import Idealize.ShloMosaic.PureOps.Ideal
public import Idealize.ShloMosaic.Lib.IdealHost

@[expose] public section

noncomputable section

namespace Cert.Quant

open Idealize.ShloMosaic

/-! ## The readings of the non-negative bf16 patterns -/

/-- What the bf16 pattern `n` reads as. -/
def V (n : ℕ) : EReal := Ideal.ofBits .bf16 (BitVec.ofNat 16 n)

/-- The same for a finite non-negative pattern, as a real number: a multiple of `2^-133` below the first normal number,
    a significand `128 + n mod 128` times a power of two from there. -/
def R (n : ℕ) : ℝ := if n / 128 = 0 then (n : ℝ) * (2 : ℝ) ^ (-133 : ℤ) else ((128 + n % 128 : ℕ) : ℝ) * (2 : ℝ) ^ (((n / 128 : ℕ) : ℤ) - 134)

/-- `R` is the reading of every pattern below that of infinity. -/
theorem V_eq (n : ℕ) (h : n < 32640) : V n = (R n : EReal) := by
  have e1 : ((BitVec.ofNat 16 n).extractLsb' 15 1 == 1#1) = false := by
    rw [beq_eq_false_iff_ne]; intro hc
    have := congrArg BitVec.toNat hc
    simp [BitVec.extractLsb'_toNat, Nat.shiftRight_eq_div_pow] at this
    omega
  have e2 : ((BitVec.ofNat 16 n).extractLsb' 7 8).toNat = n / 128 := by
    simp [BitVec.extractLsb'_toNat, Nat.shiftRight_eq_div_pow]
    omega
  have e3 : ((BitVec.ofNat 16 n).extractLsb' 0 7).toNat = n % 128 := by
    simp [BitVec.extractLsb'_toNat]
  unfold V R Ideal.ofBits Ideal.ieee
  simp only [show 8 + 7 = 15 from rfl, e1, e2, e3]
  have h2 : n / 128 ≠ 2 ^ 8 - 1 := by omega
  rw [if_neg h2]
  by_cases h0 : n / 128 = 0
  · rw [if_pos h0, if_pos h0]
    have : n % 128 = n := by omega
    rw [this]; norm_num
  · rw [if_neg h0, if_neg h0]
    norm_num
    congr 3
    ring

/-- The pattern after the last finite one reads as infinity. -/
theorem V_top : V 32640 = ⊤ := by
  simp [V, Ideal.ofBits, Ideal.ieee]

/-- The reading of the next pattern is no smaller. -/
theorem R_succ (n : ℕ) : R n ≤ R (n + 1) := by
  have hp : ∀ k : ℤ, (0 : ℝ) < (2 : ℝ) ^ k := fun k => zpow_pos (by norm_num) k
  unfold R
  by_cases h0 : n / 128 = 0
  · rw [if_pos h0]
    by_cases h1 : (n + 1) / 128 = 0
    · rw [if_pos h1]
      exact mul_le_mul_of_nonneg_right (by push_cast; linarith) (hp _).le
    · rw [if_neg h1]
      have hn : n = 127 := by omega
      subst hn
      norm_num
  · have h1 : (n + 1) / 128 ≠ 0 := by omega
    rw [if_neg h0, if_neg h1]
    by_cases hm : n % 128 = 127
    · have hd : (n + 1) / 128 = n / 128 + 1 := by omega
      have hr : (n + 1) % 128 = 0 := by omega
      rw [hd, hr, hm]
      have : (((n / 128 + 1 : ℕ) : ℤ) - 134) = (((n / 128 : ℕ) : ℤ) - 134) + 1 := by push_cast; ring
      rw [this, zpow_add₀ (by norm_num : (2 : ℝ) ≠ 0)]
      have := hp (((n / 128 : ℕ) : ℤ) - 134)
      generalize (2 : ℝ) ^ (((n / 128 : ℕ) : ℤ) - 134) = t at this ⊢
      norm_num
      linarith
    · have hd : (n + 1) / 128 = n / 128 := by omega
      have hr : (n + 1) % 128 = n % 128 + 1 := by omega
      rw [hd, hr]
      exact mul_le_mul_of_nonneg_right (by push_cast; linarith) (hp _).le

/-- The readings are increasing in the pattern. -/
theorem R_mono : Monotone R := monotone_nat_of_le_succ R_succ

/-- A pattern with a zero significand field reads as the power of two its exponent field names. -/
theorem R_pow (m : ℕ) (h : 1 ≤ m) : R (128 * m) = (2 : ℝ) ^ ((m : ℤ) - 127) := by
  unfold R
  have h1 : 128 * m / 128 = m := by omega
  have h2 : 128 * m % 128 = 0 := by omega
  rw [h1, h2, if_neg (by omega)]
  have : ((m : ℤ) - 127) = 7 + ((m : ℤ) - 134) := by ring
  rw [this, zpow_add₀ (by norm_num : (2 : ℝ) ≠ 0)]
  norm_num

/-- The pattern 32 before the one of `2^(n-127)`: the number `448 · 2^(n-136)`. -/
theorem R_edge (n : ℕ) (h : 2 ≤ n) : R (128 * n - 32) = 448 * (2 : ℝ) ^ ((n : ℤ) - 136) := by
  unfold R
  have h1 : (128 * n - 32) / 128 = n - 1 := by omega
  have h2 : (128 * n - 32) % 128 = 96 := by omega
  rw [h1, h2, if_neg (by omega)]
  have : (((n - 1 : ℕ) : ℤ) - 134) = 1 + ((n : ℤ) - 136) := by omega
  rw [this, zpow_add₀ (by norm_num : (2 : ℝ) ≠ 0)]
  norm_num
  ring

/-! ## The search for the greatest pattern whose reading is at most `a` -/

/-- One digit of the search: the digit `c` is kept when the pattern with it still reads at most `a`. -/
def step (a : EReal) (b c : BitVec 16) : BitVec 16 := if Ideal.ofBits .bf16 (b ||| c) ≤ a then b ||| c else b

/-- What holds before digit `k - 1` is tried: the pattern found so far has only digits from `k` up, reads at most `a`, and
    with the digit `k` added would be beyond the finite patterns or read more than `a`. -/
def Inv (a : EReal) (k : ℕ) (b : BitVec 16) : Prop :=
  ∃ q : ℕ, b = BitVec.ofNat 16 (2 ^ k * q) ∧ 2 ^ k * q < 32640 ∧ V (2 ^ k * q) ≤ a ∧ (32640 ≤ 2 ^ k * (q + 1) ∨ a < V (2 ^ k * (q + 1)))

/-- The search starts with the invariant. -/
theorem inv_start (a : EReal) (h0 : 0 ≤ a) : Inv a 15 0#16 := by
  refine ⟨0, rfl, by norm_num, ?_, Or.inl (by norm_num)⟩
  have : V (2 ^ 15 * 0) = 0 := by rw [V_eq _ (by norm_num)]; simp [R]
  rw [this]; exact h0

/-- A step of the search keeps the invariant. -/
theorem inv_step (a : EReal) (ht : a < ⊤) (k : ℕ) (hk : k < 15) (b : BitVec 16) (h : Inv a (k + 1) b) :
    Inv a k (step a b (BitVec.ofNat 16 (2 ^ k))) := by
  obtain ⟨q, rfl, hlt, hle, hb⟩ := h
  have e1 : (2 : ℕ) ^ (k + 1) * q = 2 ^ k * (2 * q) := by rw [pow_succ]; ring
  have e2 : (2 : ℕ) ^ (k + 1) * (q + 1) = 2 ^ k * (2 * q + 1 + 1) := by rw [pow_succ]; ring
  have hor : (BitVec.ofNat 16 (2 ^ (k + 1) * q) ||| BitVec.ofNat 16 (2 ^ k)) = BitVec.ofNat 16 (2 ^ k * (2 * q + 1)) := by
    rw [← BitVec.ofNat_or, ← Nat.two_pow_add_eq_or_of_lt (Nat.pow_lt_pow_right (by norm_num) (Nat.lt_succ_self k))]
    congr 1; rw [e1]; ring
  have hup : 2 ^ k * (2 * q + 1) ≤ 32640 := by
    rw [e1] at hlt
    interval_cases k <;> omega
  unfold step
  rw [hor]
  by_cases hc : Ideal.ofBits .bf16 (BitVec.ofNat 16 (2 ^ k * (2 * q + 1))) ≤ a
  · rw [if_pos hc]
    refine ⟨2 * q + 1, rfl, lt_of_le_of_ne hup ?_, hc, ?_⟩
    · intro he
      rw [he] at hc
      exact absurd (lt_of_le_of_lt (V_top ▸ hc : (⊤ : EReal) ≤ a) ht) (lt_irrefl _)
    · rwa [e2] at hb
  · rw [if_neg hc]
    refine ⟨2 * q, by rw [e1], by rwa [← e1], by rwa [← e1], Or.inr (not_le.mp hc)⟩

/-- The whole search, from the digit 2^14 down. -/
def bitsS (a : EReal) : BitVec 16 :=
  step a (step a (step a (step a (step a (step a (step a (step a (step a (step a (step a (step a (step a (step a (step a 0#16
    16384#16) 8192#16) 4096#16) 2048#16) 1024#16) 512#16) 256#16) 128#16) 64#16) 32#16) 16#16) 8#16) 4#16) 2#16) 1#16

/-- It finds the last finite pattern whose reading is at most `a`. -/
theorem bitsS_spec (a : EReal) (h0 : 0 ≤ a) (ht : a < ⊤) :
    ∃ B : ℕ, bitsS a = BitVec.ofNat 16 B ∧ B < 32640 ∧ V B ≤ a ∧ (32640 ≤ B + 1 ∨ a < V (B + 1)) := by
  have h := inv_step a ht 0 (by norm_num) _ <| inv_step a ht 1 (by norm_num) _ <| inv_step a ht 2 (by norm_num) _ <|
    inv_step a ht 3 (by norm_num) _ <| inv_step a ht 4 (by norm_num) _ <| inv_step a ht 5 (by norm_num) _ <|
    inv_step a ht 6 (by norm_num) _ <| inv_step a ht 7 (by norm_num) _ <| inv_step a ht 8 (by norm_num) _ <|
    inv_step a ht 9 (by norm_num) _ <| inv_step a ht 10 (by norm_num) _ <| inv_step a ht 11 (by norm_num) _ <|
    inv_step a ht 12 (by norm_num) _ <| inv_step a ht 13 (by norm_num) _ <| inv_step a ht 14 (by norm_num) _ <| inv_start a h0
  obtain ⟨q, h1, h2, h3, h4⟩ := h
  simp only [pow_zero, one_mul] at h1 h2 h3 h4
  exact ⟨q, h1, h2, h3, h4⟩

/-! ## The kernel's scale and its inverse -/

/-- The exponent field the kernel works with: the pattern found, rounded up where the significand is at least 1.75, and
    the field of `2^8` where it is below the tenth. -/
def expS (a : EReal) : BitVec 16 :=
  if ((bitsS a + 32#16) &&& 32640#16).slt 1280#16 then 17280#16 else (bitsS a + 32#16) &&& 32640#16

/-- The kernel's scale. -/
def scaleS (a : EReal) : EReal := Ideal.ofBits .bf16 (expS a - 1024#16)

/-- The kernel's inverse scale. -/
def invS (a : EReal) : EReal := Ideal.ofBits .bf16 (33536#16 - expS a)

/-- The mask keeps the exponent field. -/
theorem mask_eq : ∀ (q : Fin 256) (r : Fin 128), (128 * q.val + r.val) &&& 32640 = 128 * q.val := by decide +kernel

/-- The exponent field of a pattern that rounds into binade `n`. -/
theorem field_of_bits (B n : ℕ) (hB : B < 32640) (h1 : 128 * n ≤ B + 32) (h2 : B + 32 < 128 * n + 128) :
    (BitVec.ofNat 16 B + 32#16) &&& 32640#16 = BitVec.ofNat 16 (128 * n) := by
  apply BitVec.eq_of_toNat_eq
  have hm := mask_eq ⟨n, by omega⟩ ⟨B + 32 - 128 * n, by omega⟩
  simp only [show 128 * n + (B + 32 - 128 * n) = B + 32 by omega] at hm
  simp only [BitVec.toNat_and, BitVec.toNat_add, BitVec.toNat_ofNat]
  have e : (B % 2 ^ 16 + 32 % 2 ^ 16) % 2 ^ 16 = B + 32 := by omega
  rw [e, show 32640 % 2 ^ 16 = 32640 from rfl, hm]
  omega

/-- The scale and the inverse scale read from an exponent field are powers of two. -/
theorem fields : ∀ n : Fin 256, 10 ≤ n.val →
    (BitVec.ofNat 16 (128 * n.val)).slt 1280#16 = false ∧ BitVec.ofNat 16 (128 * n.val) - 1024#16 = BitVec.ofNat 16 (128 * (n.val - 8))
      ∧ 33536#16 - BitVec.ofNat 16 (128 * n.val) = BitVec.ofNat 16 (128 * (262 - n.val)) := by decide +kernel

/-- For `448 · 2^(e-1) ≤ a < 448 · 2^e` the kernel's scale is `2^e` and its inverse `2^-e`. -/
theorem scale_pos (a : ℝ) (e : ℤ) (hl : -125 ≤ e) (hu : e ≤ 120) (h1 : 448 * (2 : ℝ) ^ (e - 1) ≤ a) (h2 : a < 448 * (2 : ℝ) ^ e) :
    scaleS (a : EReal) = (((2 : ℝ) ^ e : ℝ) : EReal) ∧ invS (a : EReal) = (((2 : ℝ) ^ (-e) : ℝ) : EReal) := by
  obtain ⟨n, rfl⟩ : ∃ n : ℕ, e = (n : ℤ) - 135 := ⟨(e + 135).toNat, by omega⟩
  have hn1 : 10 ≤ n := by omega
  have hn2 : n < 256 := by omega
  have ha : (0 : ℝ) ≤ a := le_trans (mul_nonneg (by norm_num) (zpow_nonneg (by norm_num) _)) h1
  obtain ⟨B, hB, hlt, hle, hb⟩ := bitsS_spec (a : EReal) (by exact_mod_cast ha) (EReal.coe_lt_top a)
  have k1 : R (128 * n - 32) ≤ a := by
    rw [R_edge n (by omega)]; convert h1 using 3; ring
  have k2 : a < R (128 * (n + 1) - 32) := by
    rw [R_edge (n + 1) (by omega)]; convert h2 using 3; push_cast; ring
  have b1 : 128 * n ≤ B + 32 := by
    by_contra hc
    have hB1 : B + 1 < 32640 := by omega
    rcases hb with hb | hb
    · omega
    · rw [V_eq _ hB1, EReal.coe_lt_coe_iff] at hb
      exact absurd (lt_of_lt_of_le hb ((R_mono (by omega : B + 1 ≤ 128 * n - 32)).trans k1)) (lt_irrefl _)
  have b2 : B + 32 < 128 * n + 128 := by
    by_contra hc
    rw [V_eq _ hlt, EReal.coe_le_coe_iff] at hle
    exact absurd (lt_of_lt_of_le k2 ((R_mono (by omega : 128 * (n + 1) - 32 ≤ B)).trans hle)) (lt_irrefl _)
  have hf := field_of_bits B n hlt b1 b2
  obtain ⟨f1, f2, f3⟩ := fields ⟨n, hn2⟩ hn1
  have he : expS (a : EReal) = BitVec.ofNat 16 (128 * n) := by
    unfold expS; rw [hB, hf]; simp only [f1, Bool.false_eq_true, if_false]
  refine ⟨?_, ?_⟩
  · unfold scaleS; rw [he, f2]
    refine (V_eq (128 * (n - 8)) (by omega)).trans ?_
    rw [R_pow _ (by omega)]; congr 2; omega
  · unfold invS; rw [he, f3]
    refine (V_eq (128 * (262 - n)) (by omega)).trans ?_
    rw [R_pow _ (by omega)]; congr 2; omega

/-- A group of zeros has scale 1 and inverse 1. -/
theorem scale_zero : scaleS 0 = 1 ∧ invS 0 = 1 := by
  obtain ⟨B, hB, hlt, hle, hb⟩ := bitsS_spec 0 le_rfl (by norm_num)
  have h0 : B = 0 := by
    by_contra hc
    rw [V_eq _ hlt, ← EReal.coe_zero, EReal.coe_le_coe_iff] at hle
    have h1 : R 1 ≤ R B := R_mono (by omega)
    have : (0 : ℝ) < R 1 := by simp [R]
    linarith
  subst h0
  have he : expS 0 = 17280#16 := by unfold expS; rw [hB]; decide
  unfold scaleS invS
  rw [he]
  exact ⟨(by decide : (17280#16 - 1024#16 : BitVec 16) = 0x3F80#16) ▸ Ideal.ofBits_one_bf16,
    (by decide : (33536#16 - 17280#16 : BitVec 16) = 0x3F80#16) ▸ Ideal.ofBits_one_bf16⟩

/-! ## The reference's exponent, scale and inverse -/

/-- The number of the powers of two `2^-126, …, 2^127` that are at most `a / 448`. -/
def countS (a : EReal) : EReal :=
  ∑ i : Fin 254, if Ideal.exp2 (((i.val : ℝ) : EReal) - ((126 : ℝ) : EReal)) ≤ Ideal.div a ((448 : ℝ) : EReal) then (1 : EReal) else 0

/-- The reference's exponent. -/
def expR (a : EReal) : EReal := if a = 0 then 0 else countS a - ((126 : ℝ) : EReal)

/-- A real sum, among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- A power of two with a real exponent. -/
theorem exp2_coe (r : ℝ) : Ideal.exp2 (r : EReal) = (((2 : ℝ) ^ r : ℝ) : EReal) := rfl

/-- How many of the powers of two are at most `a / 448`. -/
theorem count_pos (a : ℝ) (e : ℤ) (hl : -125 ≤ e) (hu : e ≤ 120) (h1 : 448 * (2 : ℝ) ^ (e - 1) ≤ a) (h2 : a < 448 * (2 : ℝ) ^ e) :
    countS (a : EReal) = (((e : ℝ) + 126 : ℝ) : EReal) := by
  obtain ⟨n, rfl⟩ : ∃ n : ℕ, e = (n : ℤ) - 126 := ⟨(e + 126).toNat, by omega⟩
  have hdiv : Ideal.div (a : EReal) ((448 : ℝ) : EReal) = ((a / 448 : ℝ) : EReal) := by
    unfold Ideal.div
    rw [if_neg (by norm_num), ← EReal.coe_inv, ← EReal.coe_mul, div_eq_mul_inv]
  have hterm : ∀ i : Fin 254, (if Ideal.exp2 (((i.val : ℝ) : EReal) - ((126 : ℝ) : EReal)) ≤ Ideal.div (a : EReal) ((448 : ℝ) : EReal) then (1 : EReal) else 0)
      = (((if i.val < n then (1 : ℝ) else 0) : ℝ) : EReal) := by
    intro i
    rw [hdiv, ← EReal.coe_sub, exp2_coe]
    have hz : (2 : ℝ) ^ ((i.val : ℝ) - 126) = (2 : ℝ) ^ ((i.val : ℤ) - 126) := by
      rw [← Real.rpow_intCast]; push_cast; rfl
    rw [hz]
    simp only [EReal.coe_le_coe_iff]
    by_cases hi : i.val < n
    · rw [if_pos hi, if_pos]
      · rfl
      · have : (2 : ℝ) ^ ((i.val : ℤ) - 126) ≤ (2 : ℝ) ^ ((n : ℤ) - 126 - 1) := zpow_le_zpow_right₀ (by norm_num) (by omega)
        rw [le_div_iff₀ (by norm_num)]; linarith
    · rw [if_neg hi, if_neg]
      · rfl
      · have : (2 : ℝ) ^ ((n : ℤ) - 126) ≤ (2 : ℝ) ^ ((i.val : ℤ) - 126) := zpow_le_zpow_right₀ (by norm_num) (by omega)
        rw [not_le, div_lt_iff₀ (by norm_num)]; linarith
  unfold countS
  rw [Finset.sum_congr rfl fun i _ => hterm i, ← coe_sum]
  congr 1
  rw [Finset.sum_ite, Finset.sum_const_zero, add_zero, Finset.sum_const, nsmul_eq_mul, mul_one]
  have hc : (Finset.univ.filter fun i : Fin 254 => i.val < n).card = n := by
    rw [Fin.card_filter_val_lt]; omega
  rw [hc]; push_cast; ring

/-- For `448 · 2^(e-1) ≤ a < 448 · 2^e` the reference's exponent is `e`. -/
theorem expR_pos (a : ℝ) (e : ℤ) (hl : -125 ≤ e) (hu : e ≤ 120) (h1 : 448 * (2 : ℝ) ^ (e - 1) ≤ a) (h2 : a < 448 * (2 : ℝ) ^ e) :
    expR (a : EReal) = ((e : ℝ) : EReal) := by
  have ha : (0 : ℝ) < a := lt_of_lt_of_le (mul_pos (by norm_num) (zpow_pos (by norm_num) _)) h1
  unfold expR
  rw [if_neg (by norm_cast; exact ha.ne'), count_pos a e hl hu h1 h2, ← EReal.coe_sub]
  congr 1; ring

/-- The two scales and the two inverses agree where `a` is 0 or lies between `7 · 2^-120` and the greatest bf16 number. -/
theorem scale_eq (a : EReal) (h : a = 0 ∨ (((7 * (2 : ℝ) ^ (-120 : ℤ) : ℝ) : EReal) ≤ a ∧ a < ((448 * (2 : ℝ) ^ (120 : ℤ) : ℝ) : EReal))) :
    scaleS a = Ideal.exp2 (expR a) ∧ invS a = Ideal.exp2 (0 - expR a) := by
  rcases h with rfl | ⟨hl, hu⟩
  · obtain ⟨h1, h2⟩ := scale_zero
    have : expR 0 = ((0 : ℝ) : EReal) := by simp [expR]
    rw [h1, h2, this, ← EReal.coe_zero, ← EReal.coe_sub, exp2_coe, exp2_coe]
    norm_num
  · induction a with
    | bot => exact absurd hl (not_le.mpr (EReal.bot_lt_coe _))
    | top => exact absurd hu (not_lt.mpr le_top)
    | coe a =>
      rw [EReal.coe_le_coe_iff] at hl
      rw [EReal.coe_lt_coe_iff] at hu
      have ha : 0 < a / 448 := by
        have : (0 : ℝ) < 7 * (2 : ℝ) ^ (-120 : ℤ) := by positivity
        have : 0 < a := by linarith
        positivity
      obtain ⟨e, he1, he2⟩ := exists_mem_Ico_zpow ha (by norm_num : (1 : ℝ) < 2)
      rw [le_div_iff₀ (by norm_num)] at he1
      rw [div_lt_iff₀ (by norm_num)] at he2
      have l1 : -126 ≤ e := by
        by_contra hc
        have : (2 : ℝ) ^ (e + 1) ≤ (2 : ℝ) ^ (-126 : ℤ) := zpow_le_zpow_right₀ (by norm_num) (by omega)
        norm_num at this hl he2 ⊢; linarith
      have u1 : e ≤ 119 := by
        by_contra hc
        have : (2 : ℝ) ^ (120 : ℤ) ≤ (2 : ℝ) ^ e := zpow_le_zpow_right₀ (by norm_num) (by omega)
        linarith
      have q1 : 448 * (2 : ℝ) ^ (e + 1 - 1) ≤ a := by rw [show e + 1 - 1 = e by ring]; linarith
      have q2 : a < 448 * (2 : ℝ) ^ (e + 1) := by linarith
      obtain ⟨s1, s2⟩ := scale_pos a (e + 1) (by omega) (by omega) q1 q2
      rw [s1, s2, expR_pos a (e + 1) (by omega) (by omega) q1 q2, ← EReal.coe_zero, ← EReal.coe_sub, exp2_coe, exp2_coe]
      refine ⟨?_, ?_⟩
      · rw [← Real.rpow_intCast]
      · rw [zero_sub, ← Real.rpow_intCast]; push_cast; rfl

end Cert.Quant

end
-- ==== Proof.Point.lean ====
/- The body's functions read at an index, over the extended reals: the scale and the inverse scale of a row of a block
   are `Quant.scaleS` and `Quant.invS` of the row's greatest magnitude, a code is the scaled value clipped to ±448. -/
module

public import proofs.«01_k».proof.Proof.Model
public import proofs.«01_k».proof.Proof.Quant
public import Idealize.ShloMosaic.Lib.Pointwise

@[expose] public section

set_option maxRecDepth 16384

noncomputable section

namespace Cert.KernelIdeal.Model

open Cert.KernelIdeal Cert.KernelIdeal.Gen Idealize.ShloMosaic Idealize.ShloMosaic.TcCoe

/-- The greatest magnitude in row `r` of a block. -/
def amaxOf (x : Vec Ideal S512x128 .bf16) (r : Fin 512) : EReal :=
  Finset.univ.fold max ⊥ fun k : Fin 128 => max (x (ix2 r k) : EReal) (-(x (ix2 r k) : EReal))

/-- A value clipped to ±448. -/
def clip (a : EReal) : EReal := min ((448 : ℝ) : EReal) (max ((-448 : ℝ) : EReal) a)

/-- The maximum's start is the least extended real. -/
theorem bot_bf16 : Ideal.ofBits .bf16 0xFF80#16 = ⊥ := by
  simp [Ideal.ofBits, Ideal.ieee]

/-- The upper clip bound. -/
theorem c448 : Ideal.ofBits .f32 1138753536#32 = ((448 : ℝ) : EReal) := by
  simp [Ideal.ofBits, Ideal.ieee]
  norm_num [← EReal.coe_mul]
/-- The lower clip bound. -/
theorem cm448 : Ideal.ofBits .f32 3286237184#32 = ((-448 : ℝ) : EReal) := by
  simp [Ideal.ofBits, Ideal.ieee]
  norm_num [← EReal.coe_mul]

/-- Each lane holds its row's greatest magnitude. -/
theorem maxOf_apply (x : Vec Ideal S512x128 .bf16) (r : Fin 512) (k : Fin 128) :
    maxOf (blockOf x) (ix2 r k) = amaxOf x r := by
  pointwise [maxOf, blockOf]
  rfl

/-- One binary digit of the search, at an index. -/
theorem bitStep_apply (a : FVec Ideal S512x128 .bf16) (b : IVec S512x128 16) (c : BitVec 16) (i : S512x128.Idx) :
    bitStep a b c i = Quant.step (a i) (b i) c := by
  pointwise [bitStep]
  rfl

/-- The bit pattern found, at an index. -/
theorem bitsOf_apply (a : FVec Ideal S512x128 .bf16) (i : S512x128.Idx) : bitsOf a i = Quant.bitsS (a i) := by
  unfold bitsOf
  simp only [bitStep_apply]
  rfl

/-- The exponent field, at an index. -/
theorem expOf_apply (a : FVec Ideal S512x128 .bf16) (i : S512x128.Idx) : expOf a i = Quant.expS (a i) := by
  pointwise [expOf, fieldOf]
  simp only [bitsOf_apply]
  unfold Quant.expS
  show Scalar.select (BitVec.ofBool (((Quant.bitsS (a i) + 32#16) &&& 32640#16).slt 1280#16)) 17280#16
    ((Quant.bitsS (a i) + 32#16) &&& 32640#16) = _
  cases ((Quant.bitsS (a i) + 32#16) &&& 32640#16).slt 1280#16 <;> rfl

/-- The scale, at an index. -/
theorem scaleOf_apply (x : Vec Ideal S512x128 .bf16) (r : Fin 512) (k : Fin 128) :
    scaleOf x (ix2 r k) = Quant.scaleS (amaxOf x r) := by
  pointwise [scaleOf]
  simp only [expOf_apply, maxOf_apply]
  rfl

/-- The inverse scale, at an index. -/
theorem invOf_apply (x : Vec Ideal S512x128 .bf16) (r : Fin 512) (k : Fin 128) :
    invOf x (ix2 r k) = Quant.invS (amaxOf x r) := by
  pointwise [invOf]
  simp only [expOf_apply, maxOf_apply]
  rfl

/-- The code, at an index. -/
theorem codeOf_apply (x : Vec Ideal S512x128 .bf16) (r : Fin 512) (k : Fin 128) :
    codeOf x (ix2 r k) = clip ((x (ix2 r k) : EReal) * Quant.invS (amaxOf x r)) := by
  pointwise [codeOf, blockOf]
  simp only [invOf_apply, c448, cm448]
  rfl

/-- The dequantised input, at an index. -/
theorem deqOf_apply (x : Vec Ideal S512x128 .bf16) (r : Fin 512) (k : Fin 128) :
    deqOf x (ix2 r k) = clip ((x (ix2 r k) : EReal) * Quant.invS (amaxOf x r)) * Quant.scaleS (amaxOf x r) := by
  pointwise [deqOf]
  simp only [codeOf_apply, scaleOf_apply]

/-- A dequantised weight, at an index. -/
theorem wOf_apply (w : Vec Ideal S128x128 .fp8e4m3) (s : Elt Ideal .f32) (i : S128x128.Idx) :
    wOf w s i = (w i : EReal) * (s : EReal) := by
  pointwise [wOf]

/-- One chunk's product at an index: the sum over the 256 columns. -/
theorem chunkOf_apply (x x' : Vec Ideal S512x128 .bf16) (w : Vec Ideal S640x256 .bf16) (r : Fin 512) (o : Fin 640) :
    chunkOf x x' w (ix2 r o) = (∑ k : Fin 128, deqOf x (ix2 r k) * (w (ix2 o ⟨k.val, by omega⟩) : EReal) : EReal)
      + ∑ k : Fin 128, deqOf x' (ix2 r k) * (w (ix2 o ⟨128 + k.val, by omega⟩) : EReal) := by
  pointwise [chunkOf]

end Cert.KernelIdeal.Model

end
-- ==== Proof.RefPoint.lean ====
/- The reference's body read at an index, over the extended reals. -/
module

public import proofs.«01_k».proof.Proof.Gen.ReferenceIdeal.Skeleton
public import proofs.«01_k».proof.Proof.Point

@[expose] public section

set_option maxRecDepth 16384

noncomputable section

namespace Cert.ReferenceIdeal.Model

open Cert.ReferenceIdeal Cert.ReferenceIdeal.Gen Idealize.ShloMosaic Idealize.ShloMosaic.TcCoe
open Cert.KernelIdeal.Model (clip c448 cm448)

/-- The greatest magnitude of group `g` of row `i`. -/
def amaxR (x : Vec Ideal S4096x5120 .bf16) (i : Fin 4096) (g : Fin 40) : EReal :=
  Finset.univ.fold max ⊥ fun k : Fin 128 => max (x (ix2 i ⟨g.val * 128 + k.val, by omega⟩) : EReal) (-(x (ix2 i ⟨g.val * 128 + k.val, by omega⟩) : EReal))

/-- The maximum's start is the least extended real. -/
theorem bot_f32 : Ideal.ofBits .f32 4286578688#32 = ⊥ := by
  simp [Ideal.ofBits, Ideal.ieee]

/-- The bias. -/
theorem c126 : Ideal.ofBits .f32 1123811328#32 = ((126 : ℝ) : EReal) := by
  simp [Ideal.ofBits, Ideal.ieee]
  norm_num [← EReal.coe_mul]

/-- An elementwise power of two, at an index. -/
theorem exp2_at {s : Shape} (v : FVec Ideal s .f32) (j : s.Idx) : exp2 v j = Ideal.exp2 (v j) := by
  exact Eq.trans rfl rfl

/-- The groups' greatest magnitudes. -/
def stMax (v3 : FVec Ideal S4096x40x128 .f32) : FVec Ideal S4096x40 .f32 :=
  multiReduction .maximumf [2] S4096x40 (absf v3) 0xFF800000#32 reduces_S4096x40x128_S4096x40 (.inl rfl) rfl

/-- The powers of two counted, less their bias, before exponentiation. -/
def stPow : FVec Ideal S1x1x254 .f32 :=
  subf (sitofp .f32 (iota .tc S1x1x254 32 [2] iota_S1x1x254_d2_w32)) (broadcast S1x1x254 (Scalar.ofBits .f32 0x42FC0000#32))

/-- How many of the powers `p` are at most the quotient `q`. -/
def stCount (q : FVec Ideal S4096x40 .f32) (p : FVec Ideal S1x1x254 .f32) : FVec Ideal S4096x40 .f32 :=
  multiReduction .add [2] S4096x40 (select (cmpf .ole (broadcastTo S4096x40x254 p broadcasts_S1x1x254_S4096x40x254)
      (broadcastTo S4096x40x254 (shapeCast S4096x40x1 q shapeCasts_S4096x40_S4096x40x1) broadcasts_S4096x40x1_S4096x40x254))
    (broadcast S4096x40x254 (Scalar.ofBits .f32 0x3F800000#32)) (broadcast S4096x40x254 (Scalar.ofBits .f32 0x00000000#32)))
    0x00000000#32 reduces_S4096x40x254_S4096x40 (.inl rfl) rfl

/-- The exponent of a group, from its greatest magnitude and its count. -/
def stExp (a n : FVec Ideal S4096x40 .f32) : FVec Ideal S4096x40 .f32 :=
  select (cmpf .oeq a (broadcast S4096x40 (Scalar.ofBits .f32 0x00000000#32))) (broadcast S4096x40 (Scalar.ofBits .f32 0x00000000#32))
    (subf n (broadcast S4096x40 (Scalar.ofBits .f32 0x42FC0000#32)))

/-- The exponents, in the stages above. -/
theorem pay3_eq (x : Vec Ideal S4096x5120 .bf16) :
    k0_pay3 x = stExp (stMax (k0_pay2 x)) (stCount (divf (stMax (k0_pay2 x)) (broadcast S4096x40 (Scalar.ofBits .f32 0x43E00000#32))) (exp2 stPow)) := rfl

/-- A greatest magnitude, at an index. -/
theorem stMax_apply (v : FVec Ideal S4096x40x128 .f32) (i : Fin 4096) (g : Fin 40) :
    stMax v (ix2 i g) = Finset.univ.fold max (⊥ : EReal) fun k : Fin 128 => max (v (ix3 i g k) : EReal) (-(v (ix3 i g k) : EReal)) := by
  pointwise [stMax]
  rw [bot_f32]
  rfl

/-- The exponents counted. -/
theorem stPow_apply (k : Fin 254) : stPow (ix3 0 0 k) = ((k.val : ℝ) : EReal) - ((126 : ℝ) : EReal) := by
  pointwise [stPow]
  rw [c126]
  have h : (BitVec.ofNat 32 k.val).toInt = (k.val : ℤ) := by
    have hk : (BitVec.ofNat 32 k.val).toNat = k.val := by
      rw [BitVec.toNat_ofNat]
      exact Nat.mod_eq_of_lt (by omega)
    rw [BitVec.toInt_eq_toNat_of_lt (by rw [hk]; omega), hk]
  show ((((BitVec.ofNat 32 k.val).toInt : ℝ)) : EReal) - _ = _
  rw [h, Int.cast_natCast]

/-- A count, at an index. -/
theorem stCount_apply (q : FVec Ideal S4096x40 .f32) (p : FVec Ideal S1x1x254 .f32) (i : Fin 4096) (g : Fin 40) :
    stCount q p (ix2 i g) = ∑ k : Fin 254, if (p (ix3 0 0 k) : EReal) ≤ (q (ix2 i g) : EReal) then (1 : EReal) else 0 := by
  pointwise [stCount]

/-- An exponent, at an index. -/
theorem stExp_apply (a n : FVec Ideal S4096x40 .f32) (i : Fin 4096) (g : Fin 40) :
    stExp a n (ix2 i g) = if (a (ix2 i g) : EReal) = 0 then 0 else (n (ix2 i g) : EReal) - ((126 : ℝ) : EReal) := by
  pointwise [stExp]
  simp only [c126]

/-- The flattened input, cut into groups. -/
theorem pay2_apply (x : Vec Ideal S4096x5120 .bf16) (i : Fin 4096) (g : Fin 40) (k : Fin 128) :
    k0_pay2 x (ix3 i g k) = x (ix2 i ⟨g.val * 128 + k.val, by omega⟩) := by
  pointwise [k0_pay2]

/-- An elementwise quotient, at an index. -/
theorem div_at {s : Shape} (v w : FVec Ideal s .f32) (j : s.Idx) : divf v w j = Ideal.div (v j) (w j) := by
  exact Eq.trans rfl rfl

/-- A constant vector, at an index. -/
theorem broadcast_at {s : Shape} (e : Ideal .f32) (j : s.Idx) : broadcast s e j = e := by
  exact Eq.trans rfl rfl

/-- A group's exponent. -/
theorem pay3_apply (x : Vec Ideal S4096x5120 .bf16) (i : Fin 4096) (g : Fin 40) :
    k0_pay3 x (ix2 i g) = Quant.expR (amaxR x i g) := by
  have hm : stMax (k0_pay2 x) (ix2 i g) = amaxR x i g := by
    rw [stMax_apply]
    simp only [pay2_apply]
    rfl
  have hc : (Scalar.ofBits .f32 0x43E00000#32 : Ideal .f32) = ((448 : ℝ) : EReal) := c448
  rw [pay3_eq, stExp_apply, stCount_apply, hm]
  simp only [exp2_at, stPow_apply, div_at, broadcast_at, hm, hc]
  rfl

/-- A group's scale. -/
theorem pay4_apply (x : Vec Ideal S4096x5120 .bf16) (i : Fin 4096) (g : Fin 40) :
    k0_pay4 x (ix2 i g) = Ideal.exp2 (Quant.expR (amaxR x i g)) := by
  rw [← pay3_apply, ← exp2_at]
  rfl

/-- The codes, from the groups and the inverse scales. -/
def stCode (v3 : FVec Ideal S4096x40x128 .f32) (v30 : FVec Ideal S4096x40 .f32) : FVec Ideal S4096x40x128 .fp8e4m3 :=
  truncf .fp8e4m3 (minimumf (broadcast S4096x40x128 (Scalar.ofBits .f32 0x43E00000#32))
    (maximumf (broadcast S4096x40x128 (Scalar.ofBits .f32 0xC3E00000#32))
      (mulf v3 (broadcastTo S4096x40x128 (shapeCast S4096x40x1 v30 shapeCasts_S4096x40_S4096x40x1) broadcasts_S4096x40x1_S4096x40x128))))
    bitsLt_fp8e4m3_f32

/-- The codes, in the stages above. -/
theorem pay5_eq (x : Vec Ideal S4096x5120 .bf16) :
    k0_pay5 x = stCode (k0_pay2 x) (exp2 (subf (broadcast S4096x40 (Scalar.ofBits .f32 0x00000000#32)) (k0_pay3 x))) := rfl

/-- A code, at an index. -/
theorem stCode_apply (v3 : FVec Ideal S4096x40x128 .f32) (v30 : FVec Ideal S4096x40 .f32) (i : Fin 4096) (g : Fin 40) (k : Fin 128) :
    stCode v3 v30 (ix3 i g k) = clip ((v3 (ix3 i g k) : EReal) * (v30 (ix2 i g) : EReal)) := by
  pointwise [stCode]
  simp only [c448, cm448]
  rfl

/-- An elementwise negation, at an index. -/
theorem neg_at (v : FVec Ideal S4096x40 .f32) (j : S4096x40.Idx) :
    subf (broadcast S4096x40 (Scalar.ofBits .f32 0x00000000#32)) v j = (0 : EReal) - (v j : EReal) := by
  pointwise []

/-- A code, by group and place in the group. -/
theorem pay5_apply (x : Vec Ideal S4096x5120 .bf16) (i : Fin 4096) (g : Fin 40) (k : Fin 128) :
    k0_pay5 x (ix3 i g k) = clip ((x (ix2 i ⟨g.val * 128 + k.val, by omega⟩) : EReal) * Ideal.exp2 (0 - Quant.expR (amaxR x i g))) := by
  rw [pay5_eq, stCode_apply, pay2_apply, exp2_at, neg_at, pay3_apply]

/-- A code, by column. -/
theorem pay6_apply (x : Vec Ideal S4096x5120 .bf16) (i : Fin 4096) (j : Fin 5120) :
    k0_pay6 x (ix2 i j) = clip ((x (ix2 i j) : EReal) * Ideal.exp2 (0 - Quant.expR (amaxR x i ⟨j.val / 128, by omega⟩))) := by
  pointwise [k0_pay6]
  simp only [pay5_apply, Nat.div_add_mod']

/-- The product, at an index: one sum over all columns. -/
theorem pay1_apply (x : Vec Ideal S4096x5120 .bf16) (w : Vec Ideal S640x5120 .fp8e4m3) (s : Vec Ideal S5x40 .f32) (i : Fin 4096) (o : Fin 640) :
    k0_pay1 (k0_pay4 x) (k0_pay5 x) w s (ix2 i o) = (∑ j : Fin 5120,
      clip ((x (ix2 i j) : EReal) * Ideal.exp2 (0 - Quant.expR (amaxR x i ⟨j.val / 128, by omega⟩))) * Ideal.exp2 (Quant.expR (amaxR x i ⟨j.val / 128, by omega⟩))
      * ((w (ix2 o j) : EReal) * (s (ix2 ⟨o.val / 128, by omega⟩ ⟨j.val / 128, by omega⟩) : EReal)) : EReal) := by
  generalize h4 : k0_pay4 x = v27
  generalize h5 : k0_pay5 x = v38
  pointwise [k0_pay1]
  subst h4 h5
  simp only [pay4_apply, pay5_apply, Nat.div_add_mod']

end Cert.ReferenceIdeal.Model

end
-- ==== Proof.KerPoint.lean ====
/- The kernel's three results read at an index, over the extended reals: the codes, the scales and the product, each in
   terms of `Quant.invS` and `Quant.scaleS` of the greatest magnitude of the index's group. -/
module

public import proofs.«01_k».proof.Proof.Blocks
public import proofs.«01_k».proof.Proof.RefPoint

@[expose] public section

set_option maxRecDepth 16384

noncomputable section

namespace Cert.KernelIdeal.Val

open Cert.KernelIdeal Cert.KernelIdeal.Gen Cert.KernelIdeal.Model Idealize.ShloMosaic Idealize.ShloMosaic.TcCoe
open Cert.ReferenceIdeal.Model (amaxR)

/-- A block of columns, at an index. -/
theorem cols_apply (x1 : Vec Ideal S512x5120 .bf16) (g : Fin 40) (r : Fin 512) (k : Fin 128) :
    cols x1 g (ix2 r k) = x1 (ix2 r ⟨g.val * 128 + k.val, by omega⟩) := by
  unfold cols
  show x1 ((xRect g.val g.isLt).emb (ix2 r k)) = _
  congr 1
  funext a
  apply Fin.ext
  match a with
  | ⟨0, _⟩ => show 0 + 1 * r.val = r.val; omega
  | ⟨1, _⟩ => show 128 * g.val + 1 * k.val = g.val * 128 + k.val; omega

/-- A chunk of the dequantised weights, at an index. -/
theorem dcols_apply (d : Vec Ideal S640x5120 .bf16) (k : Fin 20) (o : Fin 640) (j : Fin 256) :
    dcols d k (ix2 o j) = d (ix2 o ⟨k.val * 256 + j.val, by omega⟩) := by
  unfold dcols
  show d ((dRect k.val k.isLt).emb (ix2 o j)) = _
  congr 1
  funext a
  apply Fin.ext
  match a with
  | ⟨0, _⟩ => show 0 + 1 * o.val = o.val; omega
  | ⟨1, _⟩ => show 256 * k.val + 1 * j.val = k.val * 256 + j.val; omega

/-- A dequantised weight: the weight times its block's scale. -/
theorem weightsG_apply (s : Vec Ideal S5x40 .f32) (w : Vec Ideal S640x5120 .fp8e4m3) (o : Fin 640) (j : Fin 5120) :
    weightsG s w (ix2 o j) = (w (ix2 o j) : EReal) * (s (ix2 ⟨o.val / 128, by omega⟩ ⟨j.val / 128, by omega⟩) : EReal) := rfl

/-- A row is its block's first row and its place in the block. -/
theorem row_split (i : Fin 4096) (h) : (⟨i.val / 512 * 512 + i.val % 512, h⟩ : Fin 4096) = i := Fin.ext (by show i.val / 512 * 512 + i.val % 512 = i.val; omega)
/-- A column is its group's first column and its place in the group. -/
theorem col_split (j : Fin 5120) (h) : (⟨j.val / 128 * 128 + j.val % 128, h⟩ : Fin 5120) = j := Fin.ext (by show j.val / 128 * 128 + j.val % 128 = j.val; omega)

/-- The rows of a block, at an index. -/
theorem rowsOf_apply (x : Vec Ideal S4096x5120 .bf16) (i : Fin 4096) (j : Fin 5120) :
    rowsOf x (i.val / 512) (by omega) (ix2 ⟨i.val % 512, Nat.mod_lt _ (by decide)⟩ j) = x (ix2 i j) := by
  exact congrArg (fun a => x (ix2 a j)) (row_split i (by omega))

/-- A group's greatest magnitude, from the kernel's block of rows. -/
theorem amax_eq (x : Vec Ideal S4096x5120 .bf16) (i : Fin 4096) (g : Fin 40) :
    amaxOf (cols (rowsOf x (i.val / 512) (by omega)) g) ⟨i.val % 512, Nat.mod_lt _ (by decide)⟩ = amaxR x i g := by
  unfold amaxOf amaxR
  simp only [cols_apply, rowsOf_apply]

/-- A code: the input times its group's inverse scale, clipped. -/
theorem codes_apply (x : Vec Ideal S4096x5120 .bf16) (i : Fin 4096) (j : Fin 5120) :
    codesG (rowsOf x (i.val / 512) (by omega)) (ix2 ⟨i.val % 512, Nat.mod_lt _ (by decide)⟩ j)
      = clip ((x (ix2 i j) : EReal) * Quant.invS (amaxR x i ⟨j.val / 128, by omega⟩)) := by
  refine Eq.trans (b := codeOf (cols (rowsOf x (i.val / 512) (by omega)) ⟨j.val / 128, by omega⟩) (ix2 ⟨i.val % 512, Nat.mod_lt _ (by decide)⟩ ⟨j.val % 128, Nat.mod_lt _ (by decide)⟩)) rfl ?_
  rw [codeOf_apply, amax_eq, cols_apply, rowsOf_apply, col_split]

/-- The scales laid in their lanes. -/
theorem lanes_apply (xs : Fin 40 → Vec Ideal S512x128 .bf16) (r : Fin 512) (l : Fin 40) : ∀ (n : ℕ) (h : n ≤ 40), l.val < n →
    lanesOf xs n h (ix2 r ⟨l.val, by omega⟩) = scaleOf (xs l) (ix2 r ⟨l.val, by omega⟩)
  | 0, _, hl => absurd hl (Nat.not_lt_zero _)
  | n + 1, h, hl => by
    have hs : lanesOf xs (n + 1) h (ix2 r ⟨l.val, by omega⟩)
        = Scalar.select (IntOp.cmpi .eq (BitVec.ofNat 16 l.val) (BitVec.ofNat 16 n)) (scaleOf (xs ⟨n, h⟩) (ix2 r ⟨l.val, by omega⟩))
          (lanesOf xs n (by omega) (ix2 r ⟨l.val, by omega⟩)) := by
      conv_lhs => unfold lanesOf
      generalize scaleOf (xs ⟨n, h⟩) = S
      generalize lanesOf xs n _ = L
      pointwise []
    rw [hs]
    by_cases e : l.val = n
    · subst e
      show Scalar.select (BitVec.ofBool (decide (_ = _))) _ _ = _
      rw [decide_eq_true rfl]
      rfl
    · have hne : ¬ (BitVec.ofNat 16 l.val = BitVec.ofNat 16 n) := by
        intro hb
        have := congrArg BitVec.toNat hb
        rw [BitVec.toNat_ofNat, BitVec.toNat_ofNat] at this
        omega
      show Scalar.select (BitVec.ofBool (decide (_ = _))) _ _ = _
      rw [decide_eq_false hne]
      exact lanes_apply xs r l n (by omega) (by omega)

/-- A scale, in its lane: its group's. -/
theorem scales_apply (x : Vec Ideal S4096x5120 .bf16) (i : Fin 4096) (g : Fin 40) :
    scalesOf (cols (rowsOf x (i.val / 512) (by omega))) (ix2 ⟨i.val % 512, Nat.mod_lt _ (by decide)⟩ g)
      = Quant.scaleS (amaxR x i g) := by
  have hs : ∀ xs : Fin 40 → Vec Ideal S512x128 .bf16, ∀ r : Fin 512, scalesOf xs (ix2 r g) = lanesOf xs 40 le_rfl (ix2 r ⟨g.val, by omega⟩) := by
    intro xs r
    unfold scalesOf
    generalize lanesOf xs 40 _ = L
    pointwise []
  rw [hs, lanes_apply _ _ g 40 le_rfl g.isLt, scaleOf_apply, amax_eq]

/-- An elementwise sum, at an index. -/
theorem addf_at {s : Shape} (a b : FVec Ideal s .f32) (j : s.Idx) : addf a b j = ((a j : EReal) + (b j : EReal) : EReal) := by
  exact Eq.trans rfl rfl

/-- The first accumulator is the first chunk. -/
theorem accOf_zero (xs : Fin 40 → Vec Ideal S512x128 .bf16) (ws : Fin 20 → Vec Ideal S640x256 .bf16) (h : 0 < 20) (j : S512x640.Idx) :
    accOf xs ws 0 h j = chunkOf (xs ⟨2 * 0, by omega⟩) (xs ⟨2 * 0 + 1, by omega⟩) (ws ⟨0, h⟩) j := by
  rw [accOf]
  congr 1

/-- Each further accumulator adds its chunk. -/
theorem accOf_succ (xs : Fin 40 → Vec Ideal S512x128 .bf16) (ws : Fin 20 → Vec Ideal S640x256 .bf16) (n : ℕ) (h : n + 1 < 20) (j : S512x640.Idx) :
    accOf xs ws (n + 1) h j = ((accOf xs ws n (by omega) j : EReal)
        + (chunkOf (xs ⟨2 * (n + 1), by omega⟩) (xs ⟨2 * (n + 1) + 1, by omega⟩) (ws ⟨n + 1, h⟩) j : EReal) : EReal) := by
  rw [accOf, addf_at]

/-- The sum over the chunks is the sum over the columns. -/
theorem acc_apply (xs : Fin 40 → Vec Ideal S512x128 .bf16) (ws : Fin 20 → Vec Ideal S640x256 .bf16) (r : Fin 512) (o : Fin 640) (f : ℕ → EReal)
    (hf : ∀ (g : Fin 40) (c : Fin 20) (k : Fin 128) (p : Fin 256), g.val * 128 + k.val = c.val * 256 + p.val →
      deqOf (xs g) (ix2 r k) * (ws c (ix2 o p) : EReal) = f (g.val * 128 + k.val)) :
    ∀ (n : ℕ) (h : n < 20), accOf xs ws n h (ix2 r o) = ∑ j ∈ Finset.range ((n + 1) * 256), f j := by
  have hchunk : ∀ (n : ℕ) (h : n < 20), chunkOf (xs ⟨2 * n, by omega⟩) (xs ⟨2 * n + 1, by omega⟩) (ws ⟨n, h⟩) (ix2 r o)
      = ∑ j ∈ Finset.range 256, f (n * 256 + j) := by
    intro n h
    have hr : ∑ j ∈ Finset.range 256, f (n * 256 + j) = (∑ k : Fin 128, f (n * 256 + k.val)) + ∑ k : Fin 128, f (n * 256 + (128 + k.val)) := by
      rw [← Finset.sum_range (fun j => f (n * 256 + j)), ← Finset.sum_range (fun j => f (n * 256 + (128 + j))), ← Finset.sum_range_add]
    rw [chunkOf_apply, hr]
    congr 1
    · refine Finset.sum_congr rfl fun k _ => ?_
      rw [hf ⟨2 * n, by omega⟩ ⟨n, h⟩ k ⟨k.val, by omega⟩ (by show 2 * n * 128 + k.val = n * 256 + k.val; omega)]
      congr 1
      show 2 * n * 128 + k.val = n * 256 + k.val; omega
    · refine Finset.sum_congr rfl fun k _ => ?_
      rw [hf ⟨2 * n + 1, by omega⟩ ⟨n, h⟩ k ⟨128 + k.val, by omega⟩ (by show (2 * n + 1) * 128 + k.val = n * 256 + (128 + k.val); omega)]
      congr 1
      show (2 * n + 1) * 128 + k.val = n * 256 + (128 + k.val); omega
  intro n
  induction n with
  | zero =>
    intro h
    rw [accOf_zero, hchunk 0 h]
    simp only [Nat.zero_mul, Nat.zero_add, Nat.one_mul]
  | succ n ih =>
    intro h
    rw [accOf_succ, ih (by omega), hchunk (n + 1) h, show (n + 1 + 1) * 256 = (n + 1) * 256 + 256 from by omega, Finset.sum_range_add]

/-- The product, at an index: one sum over all columns. -/
theorem y_apply (x : Vec Ideal S4096x5120 .bf16) (w : Vec Ideal S640x5120 .fp8e4m3) (s : Vec Ideal S5x40 .f32) (i : Fin 4096) (o : Fin 640) :
    yOf (cols (rowsOf x (i.val / 512) (by omega))) (dcols (weightsG s w)) (ix2 ⟨i.val % 512, Nat.mod_lt _ (by decide)⟩ o)
      = (∑ j : Fin 5120, clip ((x (ix2 i j) : EReal) * Quant.invS (amaxR x i ⟨j.val / 128, by omega⟩)) * Quant.scaleS (amaxR x i ⟨j.val / 128, by omega⟩)
        * ((w (ix2 o j) : EReal) * (s (ix2 ⟨o.val / 128, by omega⟩ ⟨j.val / 128, by omega⟩) : EReal)) : EReal) := by
  let T : Fin 5120 → EReal := fun j => clip ((x (ix2 i j) : EReal) * Quant.invS (amaxR x i ⟨j.val / 128, by omega⟩)) * Quant.scaleS (amaxR x i ⟨j.val / 128, by omega⟩)
        * ((w (ix2 o j) : EReal) * (s (ix2 ⟨o.val / 128, by omega⟩ ⟨j.val / 128, by omega⟩) : EReal))
  let f : ℕ → EReal := fun j => if h : j < 5120 then T ⟨j, h⟩ else 0
  have h := acc_apply (cols (rowsOf x (i.val / 512) (by omega))) (dcols (weightsG s w)) ⟨i.val % 512, Nat.mod_lt _ (by decide)⟩ o f
    (by
      intro g c k p hgp
      have hj : g.val * 128 + k.val < 5120 := by omega
      have hg : (⟨(g.val * 128 + k.val) / 128, by omega⟩ : Fin 40) = g := Fin.ext (by show (g.val * 128 + k.val) / 128 = g.val; omega)
      have hp : (⟨c.val * 256 + p.val, by omega⟩ : Fin 5120) = ⟨g.val * 128 + k.val, hj⟩ := Fin.ext hgp.symm
      rw [deqOf_apply, amax_eq, cols_apply, rowsOf_apply, dcols_apply, weightsG_apply, hp]
      show _ = dite _ _ _
      rw [dif_pos hj]
      show _ = clip (_ * Quant.invS (amaxR x i ⟨(g.val * 128 + k.val) / 128, _⟩)) * Quant.scaleS (amaxR x i ⟨(g.val * 128 + k.val) / 128, _⟩) * _
      rw [hg])
    19 (by decide)
  refine Eq.trans (b := accOf (cols (rowsOf x (i.val / 512) (by omega))) (dcols (weightsG s w)) 19 (by decide) (ix2 ⟨i.val % 512, Nat.mod_lt _ (by decide)⟩ o)) rfl (h.trans ?_)
  rw [show (19 + 1) * 256 = 5120 from rfl, Finset.sum_range]
  exact Finset.sum_congr rfl fun j _ => dif_pos j.isLt

end Cert.KernelIdeal.Val

end
-- ==== Proof.RefArrays.lean ====
/- The reference's three results as arrays, in the arguments' contents: its grid has one point and its windows are whole
   arrays, so each result is the body's value at the whole arguments. -/
module

public import proofs.«01_k».proof.Proof.Gen.ReferenceIdeal.Value
public import proofs.«01_k».proof.Proof.RefPoint
public import Idealize.ShloMosaic.Lib.Claim
public import Idealize.ShloMosaic.Lib.Pipeline.ValueKit.Point

@[expose] public section

set_option maxRecDepth 16384

noncomputable section

namespace Cert.ReferenceIdeal.Arrays

open Cert.ReferenceIdeal Cert.ReferenceIdeal.Gen Cert.ReferenceIdeal.Value Idealize.ShloMosaic Idealize.ShloMosaic.TcCoe Idealize.SL.Sem

variable {F : FTy → Type} [FloatOps F]
variable (m : (ℓ : Loc nD τ sig) → Buf (Elt F) ℓ)

/-- The input's rows, flattened. -/
def xf (c : Dev nD) : Vec F S4096x5120 .bf16 := shapeCast S4096x5120 (m ((c : Thread nD τ).loc main_arg0) : Vec F S4x1024x5120 .bf16) shapeCasts_S4x1024x5120_S4096x5120
/-- The weights. -/
def wf (c : Dev nD) : Vec F S640x5120 .fp8e4m3 := m ((c : Thread nD τ).loc main_arg1)
/-- The weights' scales. -/
def sf (c : Dev nD) : Vec F S5x40 .f32 := m ((c : Thread nD τ).loc main_arg2)

/-- The region reads the flattened input. -/
theorem V_v0 (c : Dev nD) : V m c main_v0 = xf m c := by
  unfold xf
  entry_read
  rfl

/-- The whole blocks start at 0. -/
theorem zero2 : (![0, 0] : Fin 2 → Nat) = fun _ => 0 := by
  funext a
  match a with
  | ⟨0, _⟩ => rfl
  | ⟨1, _⟩ => rfl

/-- Window 0 stays at the whole array. -/
theorem index0 : ∀ t : Fin cfg0.N, win0_0.index t = ![0, 0] := (by decide +kernel : ∀ t : Fin grid0.N, _)
/-- Window 1 stays at the whole array. -/
theorem index1 : ∀ t : Fin cfg0.N, win0_1.index t = ![0, 0] := (by decide +kernel : ∀ t : Fin grid0.N, _)
/-- Window 2 stays at the whole array. -/
theorem index2 : ∀ t : Fin cfg0.N, win0_2.index t = ![0, 0] := (by decide +kernel : ∀ t : Fin grid0.N, _)
/-- Window 3 stays at the whole array. -/
theorem index3 : ∀ t : Fin cfg0.N, win0_3.index t = ![0, 0] := (by decide +kernel : ∀ t : Fin grid0.N, _)
/-- Window 4 stays at the whole array. -/
theorem index4 : ∀ t : Fin cfg0.N, win0_4.index t = ![0, 0] := (by decide +kernel : ∀ t : Fin grid0.N, _)
/-- Window 5 stays at the whole array. -/
theorem index5 : ∀ t : Fin cfg0.N, win0_5.index t = ![0, 0] := (by decide +kernel : ∀ t : Fin grid0.N, _)

/-- Each window's block is the whole array: an index of the block is itself in the array. -/
theorem emb0 (t : Fin cfg0.N) (y : S4096x5120.Idx) : ((cfg0.win 0).blk t).view.emb y = y := by
  have h := index0 t
  funext a
  apply Fin.ext
  match a with
  | ⟨0, _⟩ =>
    show win0_0.index t (0 : Fin 2) * 4096 + 1 * (y 0).val = (y 0).val
    rw [h]; show 0 * 4096 + 1 * (y 0).val = (y 0).val; omega
  | ⟨1, _⟩ =>
    show win0_0.index t (1 : Fin 2) * 5120 + 1 * (y 1).val = (y 1).val
    rw [h]; show 0 * 5120 + 1 * (y 1).val = (y 1).val; omega

/-- The same of window 1. -/
theorem emb1 (t : Fin cfg0.N) (y : S640x5120.Idx) : ((cfg0.win 1).blk t).view.emb y = y := by
  have h := index1 t
  funext a
  apply Fin.ext
  match a with
  | ⟨0, _⟩ =>
    show win0_1.index t (0 : Fin 2) * 640 + 1 * (y 0).val = (y 0).val
    rw [h]; show 0 * 640 + 1 * (y 0).val = (y 0).val; omega
  | ⟨1, _⟩ =>
    show win0_1.index t (1 : Fin 2) * 5120 + 1 * (y 1).val = (y 1).val
    rw [h]; show 0 * 5120 + 1 * (y 1).val = (y 1).val; omega

/-- The same of window 2. -/
theorem emb2 (t : Fin cfg0.N) (y : S5x40.Idx) : ((cfg0.win 2).blk t).view.emb y = y := by
  have h := index2 t
  funext a
  apply Fin.ext
  match a with
  | ⟨0, _⟩ =>
    show win0_2.index t (0 : Fin 2) * 5 + 1 * (y 0).val = (y 0).val
    rw [h]; show 0 * 5 + 1 * (y 0).val = (y 0).val; omega
  | ⟨1, _⟩ =>
    show win0_2.index t (1 : Fin 2) * 40 + 1 * (y 1).val = (y 1).val
    rw [h]; show 0 * 40 + 1 * (y 1).val = (y 1).val; omega

/-- The same of window 3. -/
theorem emb3 (t : Fin cfg0.N) (y : S4096x640.Idx) : ((cfg0.win 3).blk t).view.emb y = y := by
  have h := index3 t
  funext a
  apply Fin.ext
  match a with
  | ⟨0, _⟩ =>
    show win0_3.index t (0 : Fin 2) * 4096 + 1 * (y 0).val = (y 0).val
    rw [h]; show 0 * 4096 + 1 * (y 0).val = (y 0).val; omega
  | ⟨1, _⟩ =>
    show win0_3.index t (1 : Fin 2) * 640 + 1 * (y 1).val = (y 1).val
    rw [h]; show 0 * 640 + 1 * (y 1).val = (y 1).val; omega

/-- The same of window 4. -/
theorem emb4 (t : Fin cfg0.N) (y : S4096x5120.Idx) : ((cfg0.win 4).blk t).view.emb y = y := by
  have h := index4 t
  funext a
  apply Fin.ext
  match a with
  | ⟨0, _⟩ =>
    show win0_4.index t (0 : Fin 2) * 4096 + 1 * (y 0).val = (y 0).val
    rw [h]; show 0 * 4096 + 1 * (y 0).val = (y 0).val; omega
  | ⟨1, _⟩ =>
    show win0_4.index t (1 : Fin 2) * 5120 + 1 * (y 1).val = (y 1).val
    rw [h]; show 0 * 5120 + 1 * (y 1).val = (y 1).val; omega

/-- The same of window 5. -/
theorem emb5 (t : Fin cfg0.N) (y : S4096x40.Idx) : ((cfg0.win 5).blk t).view.emb y = y := by
  have h := index5 t
  funext a
  apply Fin.ext
  match a with
  | ⟨0, _⟩ =>
    show win0_5.index t (0 : Fin 2) * 4096 + 1 * (y 0).val = (y 0).val
    rw [h]; show 0 * 4096 + 1 * (y 0).val = (y 0).val; omega
  | ⟨1, _⟩ =>
    show win0_5.index t (1 : Fin 2) * 40 + 1 * (y 1).val = (y 1).val
    rw [h]; show 0 * 40 + 1 * (y 1).val = (y 1).val; omega

/-- The input block is the whole input. -/
theorem iblk0_eq (c : Dev nD) (t : Fin cfg0.N) : iblk m c 0 t = xf m c := by
  funext y
  refine Eq.trans (b := V m c main_v0 (((cfg0.win 0).blk t).view.emb y)) rfl ?_
  rw [V_v0, emb0]

/-- The weights' block is all of them. -/
theorem iblk1_eq (c : Dev nD) (t : Fin cfg0.N) : iblk m c 1 t = wf m c := by
  funext y
  refine Eq.trans (b := V m c main_arg1 (((cfg0.win 1).blk t).view.emb y)) rfl ?_
  rw [V_main_arg1, emb1]
  rfl

/-- The scales' block is all of them. -/
theorem iblk2_eq (c : Dev nD) (t : Fin cfg0.N) : iblk m c 2 t = sf m c := by
  funext y
  refine Eq.trans (b := V m c main_arg2 (((cfg0.win 2).blk t).view.emb y)) rfl ?_
  rw [V_main_arg2, emb2]
  rfl

/-- The load of the input is whole. -/
theorem ldx (x : Vec F S4096x5120 .bf16) : View.ld x r0_0 = x := View.ld_unit_zero zero2 _ x
/-- The load of the weights is whole. -/
theorem ldw (w : Vec F S640x5120 .fp8e4m3) : View.ld w r0_2 = w := View.ld_unit_zero zero2 _ w
/-- The load of the scales is whole. -/
theorem lds (s : Vec F S5x40 .f32) : View.ld s r0_3 = s := View.ld_unit_zero zero2 _ s

/-- The product's block, in the body's values. -/
theorem out3_eq (x : Vec F S4096x5120 .bf16) (w : Vec F S640x5120 .fp8e4m3) (s : Vec F S5x40 .f32) :
    out0_3 x w s = k0_pay1 (k0_pay4 x) (k0_pay5 x) w s := by
  unfold out0_3 k0_pay7
  rw [ldx, ldw, lds]
  exact View.canon_cons_unit_zero zero2 _ _ []

/-- The codes' block, in the body's values. -/
theorem out4_eq (x : Vec F S4096x5120 .bf16) (w : Vec F S640x5120 .fp8e4m3) (s : Vec F S5x40 .f32) :
    out0_4 x w s = k0_pay6 x := by
  unfold out0_4
  rw [ldx]
  exact View.canon_cons_unit_zero zero2 _ _ []

/-- The scales' block, in the body's values. -/
theorem out5_eq (x : Vec F S4096x5120 .bf16) (w : Vec F S640x5120 .fp8e4m3) (s : Vec F S5x40 .f32) :
    out0_5 x w s = k0_pay4 x := by
  unfold out0_5 k0_pay7
  rw [ldx]
  exact View.canon_cons_unit_zero zero2 _ _ []

/-- The grid's one point. -/
def t0 : Fin cfg0.N := ⟨0, by decide⟩

/-- The first result. -/
theorem arr3 (c : Dev nD) (y : S4096x640.Idx) : (dats m 0 c).arrAt 3 cfg0.N y = k0_pay1 (k0_pay4 (xf m c)) (k0_pay5 (xf m c)) (wf m c) (sf m c) y := by
  have h := congrFun (blocks3 m c t0 (flush0_3 t0)) y
  rw [flushed3, iblk0_eq, iblk1_eq, iblk2_eq, out3_eq] at h
  refine Eq.trans ?_ h
  exact (congrArg ((dats m 0 c).arrAt 3 cfg0.N) (emb3 t0 y)).symm

/-- The second result. -/
theorem arr4 (c : Dev nD) (y : S4096x5120.Idx) : (dats m 0 c).arrAt 4 cfg0.N y = k0_pay6 (xf m c) y := by
  have h := congrFun (blocks4 m c t0 (flush0_4 t0)) y
  rw [flushed4, iblk0_eq, iblk1_eq, iblk2_eq, out4_eq] at h
  refine Eq.trans ?_ h
  exact (congrArg ((dats m 0 c).arrAt 4 cfg0.N) (emb4 t0 y)).symm

/-- The third result. -/
theorem arr5 (c : Dev nD) (y : S4096x40.Idx) : (dats m 0 c).arrAt 5 cfg0.N y = k0_pay4 (xf m c) y := by
  have h := congrFun (blocks5 m c t0 (flush0_5 t0)) y
  rw [flushed5, iblk0_eq, iblk1_eq, iblk2_eq, out5_eq] at h
  refine Eq.trans ?_ h
  exact (congrArg ((dats m 0 c).arrAt 5 cfg0.N) (emb5 t0 y)).symm

end Cert.ReferenceIdeal.Arrays

end
-- ==== Proof.Same.lean ====
/- The kernel's three results are the reference's, at every index, when every group's greatest magnitude is in range. -/
module

public import proofs.«01_k».proof.Proof.KerPoint
public import proofs.«01_k».proof.Proof.RefArrays

@[expose] public section

set_option maxRecDepth 16384

noncomputable section

namespace Cert.Same

open Idealize.ShloMosaic Idealize.ShloMosaic.TcCoe
open Cert.ReferenceIdeal.Model (amaxR pay1_apply pay4_apply pay6_apply)
open Cert.KernelIdeal.Val (y_apply codes_apply scales_apply)

/-- A group's greatest magnitude is 0, or in the range where its scale is a normal number. -/
def Ok (a : EReal) : Prop := a = 0 ∨ (((7 * (2:ℝ)^(-120:ℤ) : ℝ) : EReal) ≤ a ∧ a < ((448 * (2:ℝ)^(120:ℤ) : ℝ) : EReal))

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The products agree. -/
theorem y_same (c : Dev Cert.KernelIdeal.nD) (hok : ∀ i g, Ok (amaxR (Cert.KernelIdeal.Val.xf m c) i g))
    (hx : Cert.ReferenceIdeal.Arrays.xf m' c = Cert.KernelIdeal.Val.xf m c) (hw : Cert.ReferenceIdeal.Arrays.wf m' c = Cert.KernelIdeal.Val.wf m c)
    (hs : Cert.ReferenceIdeal.Arrays.sf m' c = Cert.KernelIdeal.Val.sf m c) :
    (Cert.ReferenceIdeal.Gen.dats m' 0 c).arrAt 3 Cert.ReferenceIdeal.cfg0.N = Cert.KernelIdeal.Value.G3 m c := by
  suffices h : ∀ (i : Fin 4096) (o : Fin 640), (Cert.ReferenceIdeal.Gen.dats m' 0 c).arrAt 3 Cert.ReferenceIdeal.cfg0.N (ix2 i o) = Cert.KernelIdeal.Value.G3 m c (ix2 i o) by
    funext y
    have hy := h (y 0) (y 1)
    exact ((congrArg ((Cert.ReferenceIdeal.Gen.dats m' 0 c).arrAt 3 Cert.ReferenceIdeal.cfg0.N) (eq_ix2 y)).trans hy).trans
      (congrArg (Cert.KernelIdeal.Value.G3 m c) (eq_ix2 y)).symm
  intro i o
  rw [Cert.KernelIdeal.Val.G3_apply, y_apply]
  refine (Cert.ReferenceIdeal.Arrays.arr3 m' c (ix2 i o)).trans ?_
  rw [hx, hw, hs]
  have h1 : ∀ g : Fin 40, Quant.scaleS (amaxR (Cert.KernelIdeal.Val.xf m c) i g) = _ := fun g => (Quant.scale_eq _ (hok i g)).1
  have h2 : ∀ g : Fin 40, Quant.invS (amaxR (Cert.KernelIdeal.Val.xf m c) i g) = _ := fun g => (Quant.scale_eq _ (hok i g)).2
  simp only [h1, h2]
  exact pay1_apply _ _ _ i o

/-- The codes agree. -/
theorem codes_same (c : Dev Cert.KernelIdeal.nD) (hok : ∀ i g, Ok (amaxR (Cert.KernelIdeal.Val.xf m c) i g))
    (hx : Cert.ReferenceIdeal.Arrays.xf m' c = Cert.KernelIdeal.Val.xf m c) :
    (Cert.ReferenceIdeal.Gen.dats m' 0 c).arrAt 4 Cert.ReferenceIdeal.cfg0.N = Cert.KernelIdeal.Value.G4 m c := by
  suffices h : ∀ (i : Fin 4096) (j : Fin 5120), (Cert.ReferenceIdeal.Gen.dats m' 0 c).arrAt 4 Cert.ReferenceIdeal.cfg0.N (ix2 i j) = Cert.KernelIdeal.Value.G4 m c (ix2 i j) by
    funext y
    have hy := h (y 0) (y 1)
    exact ((congrArg ((Cert.ReferenceIdeal.Gen.dats m' 0 c).arrAt 4 Cert.ReferenceIdeal.cfg0.N) (eq_ix2 y)).trans hy).trans
      (congrArg (Cert.KernelIdeal.Value.G4 m c) (eq_ix2 y)).symm
  intro i j
  rw [Cert.KernelIdeal.Val.G4_apply, codes_apply]
  refine (Cert.ReferenceIdeal.Arrays.arr4 m' c (ix2 i j)).trans ?_
  rw [hx, pay6_apply, (Quant.scale_eq _ (hok i ⟨j.val / 128, by omega⟩)).2]

/-- The scales agree. -/
theorem scales_same (c : Dev Cert.KernelIdeal.nD) (hok : ∀ i g, Ok (amaxR (Cert.KernelIdeal.Val.xf m c) i g))
    (hx : Cert.ReferenceIdeal.Arrays.xf m' c = Cert.KernelIdeal.Val.xf m c) :
    (Cert.ReferenceIdeal.Gen.dats m' 0 c).arrAt 5 Cert.ReferenceIdeal.cfg0.N = Cert.KernelIdeal.Value.G5 m c := by
  suffices h : ∀ (i : Fin 4096) (g : Fin 40), (Cert.ReferenceIdeal.Gen.dats m' 0 c).arrAt 5 Cert.ReferenceIdeal.cfg0.N (ix2 i g) = Cert.KernelIdeal.Value.G5 m c (ix2 i g) by
    funext y
    have hy := h (y 0) (y 1)
    exact ((congrArg ((Cert.ReferenceIdeal.Gen.dats m' 0 c).arrAt 5 Cert.ReferenceIdeal.cfg0.N) (eq_ix2 y)).trans hy).trans
      (congrArg (Cert.KernelIdeal.Value.G5 m c) (eq_ix2 y)).symm
  intro i g
  rw [Cert.KernelIdeal.Val.G5_apply, scales_apply]
  refine (Cert.ReferenceIdeal.Arrays.arr5 m' c (ix2 i g)).trans ?_
  rw [hx, pay4_apply, (Quant.scale_eq _ (hok i g)).1]

end Cert.Same

end
-- ==== Proof.Range.lean ====
/- What the precondition says of the arguments: every group's greatest magnitude is 0, or lies between the least and the
   greatest magnitude at which the scale is a normal number. -/
module

public import proofs.«01_k».proof.Pre_groups_in_range
public import proofs.«01_k».proof.Proof.RefPoint
public import Idealize.ShloMosaic.Lib.ReduceAll

@[expose] public section

set_option maxRecDepth 16384

noncomputable section

namespace Cert.Pre_groups_in_range

open Idealize.ShloMosaic
open Cert.ReferenceIdeal.Model (amaxR bot_f32)

variable [Facts]
open Facts

/-- The groups' greatest magnitudes. -/
def preMax (v : FVec Ideal S4096x40x128 .f32) : FVec Ideal S4096x40 .f32 :=
  Host.reduce FloatOps.maximumf (Host.absf v) (constant S_ .f32 0xFF800000#32) reducesTo_S4096x40x128_S4096x40_d2 h_S_

/-- Which groups are in range. -/
def preMask (a : FVec Ideal S4096x40 .f32) : IVec S4096x40 1 :=
  ori (cmpf .oeq a (broadcastInDim S4096x40 ![] bcast_S_S4096x40 (constant S_ .f32 0x00000000#32)))
    (andi (cmpf .oge a (broadcastInDim S4096x40 ![] bcast_S_S4096x40 (constant S_ .f32 0x04E00000#32)))
      (cmpf .ole a (broadcastInDim S4096x40 ![] bcast_S_S4096x40 (constant S_ .f32 0x7F7F0000#32))))

/-- The groups, cut from the input. -/
def preGroups (x : FVec Ideal S4x1024x5120 .bf16) : FVec Ideal S4096x40x128 .f32 :=
  shapeCast S4096x40x128 (extf .f32 x bitsLt_bf16_f32) shapeCasts_S4x1024x5120_S4096x40x128

/-- The precondition, in the stages above. -/
theorem fn_eq (x : FVec Ideal S4x1024x5120 .bf16) (w : FVec Ideal S640x5120 .fp8e4m3) (s : FVec Ideal S5x40 .f32) :
    fn x w s = Host.reduce IntOp.andi (preMask (preMax (preGroups x))) (constantI S_ 1 1#1) reducesTo_S4096x40_S_d0_1 h_S_ := rfl

/-- A greatest magnitude, at an index. -/
theorem preMax_apply (v : FVec Ideal S4096x40x128 .f32) (i : Fin 4096) (g : Fin 40) :
    preMax v (ix2 i g) = Finset.univ.fold max (⊥ : EReal) fun k : Fin 128 => max (v (ix3 i g k) : EReal) (-(v (ix3 i g k) : EReal)) := by
  pointwise [preMax]
  rw [bot_f32]
  rfl

/-- A group is 128 neighbouring columns of a flattened row. -/
theorem preGroups_apply (x : FVec Ideal S4x1024x5120 .bf16) (h : S4x1024x5120.ShapeCasts Cert.ReferenceIdeal.S4096x5120) (i : Fin 4096) (g : Fin 40) (k : Fin 128) :
    preGroups x (ix3 i g k) = shapeCast Cert.ReferenceIdeal.S4096x5120 x h (ix2 i ⟨g.val * 128 + k.val, by omega⟩) := by
  pointwise [preGroups]

/-- The least magnitude allowed. -/
theorem lo_val : Ideal.ofBits .f32 81788928#32 = ((7 * (2:ℝ)^(-120:ℤ) : ℝ) : EReal) := by
  simp [Ideal.ofBits, Ideal.ieee]
  norm_num [← EReal.coe_mul]

/-- The greatest magnitude allowed, the greatest finite bf16 number. -/
theorem hi_val : Ideal.ofBits .f32 2139029504#32 = ((255 * (2:ℝ)^(120:ℤ) : ℝ) : EReal) := by
  simp [Ideal.ofBits, Ideal.ieee]
  simp only [← EReal.coe_pow, ← EReal.coe_mul]
  norm_num

/-- What a group in range satisfies. -/
theorem preMask_apply (a : FVec Ideal S4096x40 .f32) (i : Fin 4096) (g : Fin 40) (h : preMask a (ix2 i g) = 1#1) :
    (a (ix2 i g) : EReal) = 0 ∨ (((7 * (2:ℝ)^(-120:ℤ) : ℝ) : EReal) ≤ (a (ix2 i g) : EReal) ∧ (a (ix2 i g) : EReal) < ((448 * (2:ℝ)^(120:ℤ) : ℝ) : EReal)) := by
  generalize he : (a (ix2 i g) : EReal) = e
  have hm : preMask a (ix2 i g) = IntOp.ori (BitVec.ofBool (decide (e = Ideal.ofBits .f32 0#32)))
      (IntOp.andi (BitVec.ofBool (decide (Ideal.ofBits .f32 81788928#32 ≤ e))) (BitVec.ofBool (decide (e ≤ Ideal.ofBits .f32 2139029504#32)))) := by
    subst he
    exact Eq.trans rfl rfl
  rw [hm, lo_val, hi_val, Ideal.ofBits_zero] at h
  by_cases h0 : e = 0
  · exact Or.inl h0
  · right
    rw [decide_eq_false h0] at h
    by_cases h1 : ((7 * (2:ℝ)^(-120:ℤ) : ℝ) : EReal) ≤ e
    · by_cases h2 : e ≤ ((255 * (2:ℝ)^(120:ℤ) : ℝ) : EReal)
      · refine ⟨h1, lt_of_le_of_lt h2 ?_⟩
        rw [EReal.coe_lt_coe_iff]
        norm_num
      · rw [decide_eq_false h2, decide_eq_true h1] at h
        exact absurd h (by decide)
    · rw [decide_eq_false h1] at h
      by_cases h2 : e ≤ ((255 * (2:ℝ)^(120:ℤ) : ℝ) : EReal)
      · rw [decide_eq_true h2] at h
        exact absurd h (by decide)
      · rw [decide_eq_false h2] at h
        exact absurd h (by decide)

/-- The precondition, group by group. -/
theorem in_range (x : FVec Ideal S4x1024x5120 .bf16) (w : FVec Ideal S640x5120 .fp8e4m3) (s : FVec Ideal S5x40 .f32)
    (hp : fn x w s = fun _ => 1#1) (h : S4x1024x5120.ShapeCasts Cert.ReferenceIdeal.S4096x5120) (i : Fin 4096) (g : Fin 40) :
    amaxR (shapeCast Cert.ReferenceIdeal.S4096x5120 x h) i g = 0
      ∨ (((7 * (2:ℝ)^(-120:ℤ) : ℝ) : EReal) ≤ amaxR (shapeCast Cert.ReferenceIdeal.S4096x5120 x h) i g
        ∧ amaxR (shapeCast Cert.ReferenceIdeal.S4096x5120 x h) i g < ((448 * (2:ℝ)^(120:ℤ) : ℝ) : EReal)) := by
  rw [fn_eq] at hp
  have hsub : Subsingleton S_.Idx := ⟨fun a b => funext fun d => d.elim0⟩
  have hm := Host.reduce_andi_all (preMask (preMax (preGroups x))) _ _ _ (fun d => d.elim0) (congrFun hp _) (ix2 i g)
  have hr := preMask_apply _ i g hm
  have he : preMax (preGroups x) (ix2 i g) = amaxR (shapeCast Cert.ReferenceIdeal.S4096x5120 x h) i g := by
    rw [preMax_apply]
    simp only [preGroups_apply x h]
    rfl
  rw [he] at hr
  exact hr

end Cert.Pre_groups_in_range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_groups_in_range
public import Idealize.ShloMosaic.Adequacy
public import Idealize.ShloMosaic.Init
public import proofs.«01_k».proof.Proof.Gen.KernelIdeal.Value
public import proofs.«01_k».proof.Proof.Gen.ReferenceIdeal.Value
public import proofs.«01_k».proof.Proof.Same
public import proofs.«01_k».proof.Proof.Range

@[expose] public section

noncomputable section

namespace Cert.Proof

open Idealize.ShloMosaic Idealize.SL.Sem Cert.Kernel

/-- The kernel and the reference, over the extended reals, leave equal results. -/
theorem algebraic : Cert.algebraic_KernelIdeal_ReferenceIdeal_pre_groups_in_range (hKernelIdeal := Cert.KernelIdeal.Gen.facts)
    (hReferenceIdeal := Cert.ReferenceIdeal.Gen.facts) (hPre_groups_in_range := Cert.Pre_groups_in_range.Gen.facts) := by
  intro m g m' g' hpre hargs
  have hok : ∀ (c : Dev Cert.KernelIdeal.nD) i gr, Cert.Same.Ok (Cert.ReferenceIdeal.Model.amaxR (Cert.KernelIdeal.Val.xf m c) i gr) :=
    fun c i gr => Cert.Pre_groups_in_range.in_range _ _ _ (hpre c) _ i gr
  have hx : ∀ c, Cert.ReferenceIdeal.Arrays.xf m' c = Cert.KernelIdeal.Val.xf m c := by
    intro c
    unfold Cert.ReferenceIdeal.Arrays.xf Cert.KernelIdeal.Val.xf
    rw [(hargs c).1]
  have hw : ∀ c, Cert.ReferenceIdeal.Arrays.wf m' c = Cert.KernelIdeal.Val.wf m c := fun c => (hargs c).2.1
  have hs : ∀ c, Cert.ReferenceIdeal.Arrays.sf m' c = Cert.KernelIdeal.Val.sf m c := fun c => (hargs c).2.2
  refine ⟨fun c => Cert.KernelIdeal.Value.G3 m c, fun c => Cert.KernelIdeal.Value.G4 m c, fun c => Cert.KernelIdeal.Value.G5 m c,
    Cert.KernelIdeal.Value.run m g, ?_⟩
  refine (θ_run _ _ _).mono (fun r h c => ?_) (Cert.ReferenceIdeal.Value.run_blocks m' g')
  obtain ⟨h3, h4, h5, ha⟩ := h c
  exact ⟨h3.trans (Cert.Same.y_same m m' c (hok c) (hx c) (hw c) (hs c)), h4.trans (Cert.Same.codes_same m m' c (hok c) (hx c)),
    h5.trans (Cert.Same.scales_same m m' c (hok c) (hx c)), ha⟩

/-- The five claims: the frames, `preserves` and the equality of the results. -/
theorem claim : Cert.Claim := ⟨Cert.Kernel.Gen.facts, Cert.KernelIdeal.Gen.facts, Cert.ReferenceIdeal.Gen.facts, Cert.Pre_groups_in_range.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, algebraic⟩

end Cert.Proof

end
